-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S4096x128 : Shape := ⟨2, ![4096, 128]⟩
abbrev S1024x6 : Shape := ⟨2, ![1024, 6]⟩
abbrev S1024 : Shape := ⟨1, ![1024]⟩
abbrev S1024x385 : Shape := ⟨2, ![1024, 385]⟩
abbrev S128 : Shape := ⟨1, ![128]⟩
abbrev S128x2 : Shape := ⟨2, ![128, 2]⟩
abbrev S_ : Shape := ⟨0, ![]⟩

class Facts : Prop where
  bcast_S_S1024x6 : S_.BroadcastsInDim S1024x6 (![] : Fin 0 → Fin S1024x6.rank)
  reducesTo_S1024x6_S_d0_1 : S1024x6.ReducesTo [0, 1] S_
  h_S_ : 0 < S_.numel
  bcast_S_S128x2 : S_.BroadcastsInDim S128x2 (![] : Fin 0 → Fin S128x2.rank)
  reducesTo_S128x2_S_d0_1 : S128x2.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg2 : FVec F S1024x6 .f32) (main_arg3 : FVec F S1024x6 .f32) (main_arg5 : FVec F S1024 .f32) (main_v12 : IVec S_ 1) (main_v15 : IVec S_ 1) : IVec S_ 1 :=
  let main_v16 : IVec S_ 1 := andi main_v12 main_v15
  let main_v17 : FVec F S1024x6 .f32 := Host.absf main_arg2
  let main_cst_6 : FVec F S_ .f32 := constant S_ .f32 0x7F800000#32
  let main_v18 : FVec F S1024x6 .f32 := broadcastInDim S1024x6 ![] bcast_S_S1024x6 main_cst_6
  let main_v19 : IVec S1024x6 1 := cmpf .olt main_v17 main_v18
  let main_c_7 : IVec S_ 1 := constantI S_ 1 1#1
  let main_v20 : IVec S_ 1 := (fun x v => Host.reduce IntOp.andi x v reducesTo_S1024x6_S_d0_1 h_S_) main_v19 main_c_7
  let main_v21 : IVec S_ 1 := andi main_v16 main_v20
  let main_v22 : FVec F S1024x6 .f32 := Host.absf main_arg3
  let main_cst_8 : FVec F S_ .f32 := constant S_ .f32 0x7F800000#32
  let main_v23 : FVec F S1024x6 .f32 := broadcastInDim S1024x6 ![] bcast_S_S1024x6 main_cst_8
  let main_v24 : IVec S1024x6 1 := cmpf .olt main_v22 main_v23
  let main_c_9 : IVec S_ 1 := constantI S_ 1 1#1
  let main_v25 : IVec S_ 1 := (fun x v => Host.reduce IntOp.andi x v reducesTo_S1024x6_S_d0_1 h_S_) main_v24 main_c_9
  let main_v26 : IVec S_ 1 := andi main_v21 main_v25
  let main_v27 : FVec F S1024 .f32 := Host.absf main_arg5
  let main_cst_10 : FVec F S_ .f32 := constant S_ .f32 0x7F800000#32
  let main_v28 : FVec F S1024 .f32 := broadcastInDim S1024 ![] bcast_S_S1024 main_cst_10
  let main_v29 : IVec S1024 1 := cmpf .olt main_v27 main_v28
  let main_c_11 : IVec S_ 1 := constantI S_ 1 1#1
  let main_v30 : IVec S_ 1 := (fun x v => Host.reduce IntOp.andi x v reducesTo_S1024_S_d0 h_S_) main_v29 main_c_11
  let main_v31 : IVec S_ 1 := andi main_v26 main_v30
  main_v31

def fn {F : FTy → Type} [FloatOps F] (main_arg0 : FVec F S4096x128 .f32) (main_arg1 : IVec S1024x6 32) (main_arg2 : FVec F S1024x6 .f32) (main_arg3 : FVec F S1024x6 .f32) (main_arg4 : FVec F S1024x6 .f32) (main_arg5 : FVec F S1024 .f32) (main_arg6 : FVec F S1024x385 .f32) (main_arg7 : FVec F S128 .f32) (main_arg8 : IVec S128x2 32) : IVec S_ 1 :=
  let main_c : IVec S_ 32 := constantI S_ 32 0#32
  let main_v0 : IVec S1024x6 32 := broadcastInDim S1024x6 ![] bcast_S_S1024x6 main_c
  let main_v1 : IVec S1024x6 1 := cmpi .sge main_arg1 main_v0
  let main_c_0 : IVec S_ 32 := constantI S_ 32 128#32
  let main_v2 : IVec S1024x6 32 := broadcastInDim S1024x6 ![] bcast_S_S1024x6 main_c_0
  let main_v3 : IVec S1024x6 1 := cmpi .slt main_arg1 main_v2
  let main_v4 : IVec S1024x6 1 := andi main_v1 main_v3
  let main_c_1 : IVec S_ 1 := constantI S_ 1 1#1
  let main_v5 : IVec S_ 1 := (fun x v => Host.reduce IntOp.andi x v reducesTo_S1024x6_S_d0_1 h_S_) main_v4 main_c_1
  let main_c_2 : IVec S_ 32 := constantI S_ 32 0#32
  let main_v6 : IVec S128x2 32 := broadcastInDim S128x2 ![] bcast_S_S128x2 main_c_2
  let main_v7 : IVec S128x2 1 := cmpi .sge main_arg8 main_v6
  let main_c_3 : IVec S_ 32 := constantI S_ 32 128#32
  let main_v8 : IVec S128x2 32 := broadcastInDim S128x2 ![] bcast_S_S128x2 main_c_3
  let main_v9 : IVec S128x2 1 := cmpi .slt main_arg8 main_v8
  let main_v10 : IVec S128x2 1 := andi main_v7 main_v9
  let main_c_4 : IVec S_ 1 := constantI S_ 1 1#1
  let main_v11 : IVec S_ 1 := (fun x v => Host.reduce IntOp.andi x v reducesTo_S128x2_S_d0_1 h_S_) main_v10 main_c_4
  let main_v12 : IVec S_ 1 := andi main_v5 main_v11
  let main_cst : FVec F S_ .f32 := constant S_ .f32 0x3F800000#32
  let main_v13 : FVec F S1024x6 .f32 := broadcastInDim S1024x6 ![] bcast_S_S1024x6 main_cst
  let main_v14 : IVec S1024x6 1 := cmpf .oeq main_arg4 main_v13
  let main_c_5 : IVec S_ 1 := constantI S_ 1 1#1
  let main_v15 : IVec S_ 1 := (fun x v => Host.reduce IntOp.andi x v reducesTo_S1024x6_S_d0_1 h_S_) main_v14 main_c_5
  fn_part1 (F := F) main_arg2 main_arg3 main_arg5 main_v12 main_v15
-- ==== Kernel.lean ====
abbrev S4096x128 : Shape := ⟨2, ![4096, 128]⟩
abbrev S1024x6 : Shape := ⟨2, ![1024, 6]⟩
abbrev S1024 : Shape := ⟨1, ![1024]⟩
abbrev S1024x385 : Shape := ⟨2, ![1024, 385]⟩
abbrev S128 : Shape := ⟨1, ![128]⟩
abbrev S128x2 : Shape := ⟨2, ![128, 2]⟩
abbrev S1024x1 : Shape := ⟨2, ![1024, 1]⟩
abbrev S1x1024x6 : Shape := ⟨3, ![1, 1024, 6]⟩
abbrev S3x1024x6 : Shape := ⟨3, ![3, 1024, 6]⟩
abbrev S3x6x1024 : Shape := ⟨3, ![3, 6, 1024]⟩
abbrev S3x6144 : Shape := ⟨2, ![3, 6144]⟩
abbrev S128x1 : Shape := ⟨2, ![128, 1]⟩
abbrev S1x128 : Shape := ⟨2, ![1, 128]⟩
abbrev S_ : Shape := ⟨0, ![]⟩
abbrev S1x6144 : Shape := ⟨2, ![1, 6144]⟩
abbrev S2x6144 : Shape := ⟨2, ![2, 6144]⟩
abbrev S8x6144 : Shape := ⟨2, ![8, 6144]⟩
abbrev S1024x512 : Shape := ⟨2, ![1024, 512]⟩
abbrev S4096x1 : Shape := ⟨2, ![4096, 1]⟩
abbrev S2048x128 : Shape := ⟨2, ![2048, 128]⟩
abbrev S2048x1 : Shape := ⟨2, ![2048, 1]⟩
abbrev S128x6400 : Shape := ⟨2, ![128, 6400]⟩
abbrev S128x6144 : Shape := ⟨2, ![128, 6144]⟩
abbrev S128x128 : Shape := ⟨2, ![128, 128]⟩
abbrev S2048x6400 : Shape := ⟨2, ![2048, 6400]⟩
abbrev S2048x6144 : Shape := ⟨2, ![2048, 6144]⟩
abbrev S2048x1024 : Shape := ⟨2, ![2048, 1024]⟩
abbrev S2048x512 : Shape := ⟨2, ![2048, 512]⟩
abbrev S2048 : Shape := ⟨1, ![2048]⟩

abbrev nBuf : Space → Nat
  | .hbm => 47
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S1024x6, .i32⟩
  | .hbm, ⟨2, _⟩ => ⟨S1024x6, .f32⟩
  | .hbm, ⟨3, _⟩ => ⟨S1024x6, .f32⟩
  | .hbm, ⟨4, _⟩ => ⟨S1024x6, .f32⟩
  | .hbm, ⟨5, _⟩ => ⟨S1024, .f32⟩
  | .hbm, ⟨6, _⟩ => ⟨S1024x385, .f32⟩
  | .hbm, ⟨7, _⟩ => ⟨S128, .f32⟩
  | .hbm, ⟨8, _⟩ => ⟨S128x2, .i32⟩
  | .hbm, ⟨9, _⟩ => ⟨S1024x1, .f32⟩
  | .hbm, ⟨10, _⟩ => ⟨S1024x6, .f32⟩
  | .hbm, ⟨11, _⟩ => ⟨S1024x6, .f32⟩
  | .hbm, ⟨12, _⟩ => ⟨S1024x6, .f32⟩
  | .hbm, ⟨13, _⟩ => ⟨S1024x6, .f32⟩
  | .hbm, ⟨14, _⟩ => ⟨S1024x6, .f32⟩
  | .hbm, ⟨15, _⟩ => ⟨S1024x6, .f32⟩
  | .hbm, ⟨16, _⟩ => ⟨S1x1024x6, .f32⟩
  | .hbm, ⟨17, _⟩ => ⟨S1x1024x6, .f32⟩
  | .hbm, ⟨18, _⟩ => ⟨S1x1024x6, .f32⟩
  | .hbm, ⟨19, _⟩ => ⟨S3x1024x6, .f32⟩
  | .hbm, ⟨20, _⟩ => ⟨S3x6x1024, .f32⟩
  | .hbm, ⟨21, _⟩ => ⟨S3x6144, .f32⟩
  | .hbm, ⟨22, _⟩ => ⟨S128x1, .i32⟩
  | .hbm, ⟨23, _⟩ => ⟨S128, .i32⟩
  | .hbm, ⟨24, _⟩ => ⟨S128, .f32⟩
  | .hbm, ⟨25, _⟩ => ⟨S1x128, .f32⟩
  | .hbm, ⟨26, _⟩ => ⟨S_, .i32⟩
  | .hbm, ⟨27, _⟩ => ⟨S_, .f32⟩
  | .hbm, ⟨28, _⟩ => ⟨S1x6144, .f32⟩
  | .hbm, ⟨29, _⟩ => ⟨S128x1, .i32⟩
  | .hbm, ⟨30, _⟩ => ⟨S128, .i32⟩
  | .hbm, ⟨31, _⟩ => ⟨S128, .f32⟩
  | .hbm, ⟨32, _⟩ => ⟨S1x128, .f32⟩
  | .hbm, ⟨33, _⟩ => ⟨S_, .i32⟩
  | .hbm, ⟨34, _⟩ => ⟨S_, .f32⟩
  | .hbm, ⟨35, _⟩ => ⟨S1x6144, .f32⟩
  | .hbm, ⟨36, _⟩ => ⟨S1x128, .f32⟩
  | .hbm, ⟨37, _⟩ => ⟨S_, .i32⟩
  | .hbm, ⟨38, _⟩ => ⟨S_, .f32⟩
  | .hbm, ⟨39, _⟩ => ⟨S1x6144, .f32⟩
  | .hbm, ⟨40, _⟩ => ⟨S_, .f32⟩
  | .hbm, ⟨41, _⟩ => ⟨S2x6144, .f32⟩
  | .hbm, ⟨42, _⟩ => ⟨S8x6144, .f32⟩
  | .hbm, ⟨43, _⟩ => ⟨S_, .i32⟩
  | .hbm, ⟨44, _⟩ => ⟨S_, .f32⟩
  | .hbm, ⟨45, _⟩ => ⟨S1024x512, .f32⟩
  | .hbm, ⟨46, _⟩ => ⟨S4096x1, .f32⟩
  | .local _ .vmem, ⟨0, _⟩ => ⟨S2048x128, .f32⟩
  | .local _ .vmem, ⟨1, _⟩ => ⟨S2048x128, .f32⟩
  | .local _ .vmem, ⟨2, _⟩ => ⟨S8x6144, .f32⟩
  | .local _ .vmem, ⟨3, _⟩ => ⟨S1024x512, .f32⟩
  | .local _ .vmem, ⟨4, _⟩ => ⟨S2048x1, .f32⟩
  | .local _ .vmem, ⟨5, _⟩ => ⟨S2048x1, .f32⟩
  | .local _ .vmem, ⟨6, _⟩ => ⟨S128x6400, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_0 : Ref sig .tc := ⟨.hbm, 33, rfl⟩
abbrev main_call1_v0 : Ref sig .tc := ⟨.hbm, 34, rfl⟩
abbrev main_v22 : Ref sig .tc := ⟨.hbm, 35, rfl⟩
abbrev main_v23 : Ref sig .tc := ⟨.hbm, 36, rfl⟩
abbrev main_c_1 : Ref sig .tc := ⟨.hbm, 37, rfl⟩
abbrev main_call2_v0 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_c_2 : Ref sig .tc := ⟨.hbm, 43, rfl⟩
abbrev main_call3_v0 : Ref sig .tc := ⟨.hbm, 44, rfl⟩
abbrev main_v27 : Ref sig .tc := ⟨.hbm, 45, rfl⟩
abbrev main_v28 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | _ => none
-- ==== ReferenceIdeal.lean ====
abbrev S4096x128 : Shape := ⟨2, ![4096, 128]⟩
abbrev S1024x6 : Shape := ⟨2, ![1024, 6]⟩
abbrev S1024 : Shape := ⟨1, ![1024]⟩
abbrev S1024x385 : Shape := ⟨2, ![1024, 385]⟩
abbrev S128 : Shape := ⟨1, ![128]⟩
abbrev S128x2 : Shape := ⟨2, ![128, 2]⟩
abbrev S1x128 : Shape := ⟨2, ![1, 128]⟩
abbrev S_ : Shape := ⟨0, ![]⟩
abbrev S1024x6x1 : Shape := ⟨3, ![1024, 6, 1]⟩
abbrev S1 : Shape := ⟨1, ![1]⟩
abbrev S1x1x1 : Shape := ⟨3, ![1, 1, 1]⟩
abbrev S4096x1024x6 : Shape := ⟨3, ![4096, 1024, 6]⟩
abbrev S1x1024x6 : Shape := ⟨3, ![1, 1024, 6]⟩
abbrev S1x1024x1 : Shape := ⟨3, ![1, 1024, 1]⟩
abbrev S4096x1024x1 : Shape := ⟨3, ![4096, 1024, 1]⟩
abbrev S4096x1024 : Shape := ⟨2, ![4096, 1024]⟩
abbrev S4096 : Shape := ⟨1, ![4096]⟩
abbrev S4096x1 : Shape := ⟨2, ![4096, 1]⟩
abbrev S128x1 : Shape := ⟨2, ![128, 1]⟩
abbrev S1x1 : Shape := ⟨2, ![1, 1]⟩
abbrev S4096x385 : Shape := ⟨2, ![4096, 385]⟩
abbrev S385x1024 : Shape := ⟨2, ![385, 1024]⟩

abbrev nBuf : Space → Nat
  | .hbm => 146
  | .vmem => 0
  | .smem => 0
  | _ => 0

abbrev hbmTy0_0 (i : Nat) : BufTy := match i % 128 with
  | 0 => ⟨S4096x128, .f32⟩
  | 1 => ⟨S1024x6, .i32⟩
  | 2 => ⟨S1024x6, .f32⟩
  | 3 => ⟨S1024x6, .f32⟩
  | 4 => ⟨S1024x6, .f32⟩
  | 5 => ⟨S1024, .f32⟩
  | 6 => ⟨S1024x385, .f32⟩
  | 7 => ⟨S128, .f32⟩
  | 8 => ⟨S128x2, .i32⟩
  | 9 => ⟨S1x128, .f32⟩
  | 10 => ⟨S4096x128, .f32⟩
  | 11 => ⟨S4096x128, .f32⟩
  | 12 => ⟨S_, .i32⟩
  | 13 => ⟨S1024x6, .i32⟩
  | 14 => ⟨S1024x6, .i1⟩
  | 15 => ⟨S_, .i32⟩
  | 16 => ⟨S1024x6, .i32⟩
  | 17 => ⟨S1024x6, .i32⟩
  | 18 => ⟨S1024x6, .i32⟩
  | 19 => ⟨S1024x6x1, .i32⟩
  | 20 => ⟨S1, .i32⟩
  | 21 => ⟨S_, .i32⟩
  | 22 => ⟨S1024x6x1, .i32⟩
  | 23 => ⟨S1024x6x1, .i1⟩
  | 24 => ⟨S1x1x1, .i32⟩
  | 25 => ⟨S1024x6x1, .i32⟩
  | 26 => ⟨S1024x6x1, .i1⟩
  | 27 => ⟨S1024x6x1, .i1⟩
  | 28 => ⟨S_, .i1⟩
  | 29 => ⟨S1024x6, .i1⟩
  | 30 => ⟨S4096x1024x6, .f32⟩
  | 31 => ⟨S4096x1024x6, .i1⟩
  | 32 => ⟨S_, .f32⟩
  | 33 => ⟨S4096x1024x6, .f32⟩
  | 34 => ⟨S4096x1024x6, .f32⟩
  | 35 => ⟨S1x1024x6, .f32⟩
  | 36 => ⟨S1x1024x6, .f32⟩
  | 37 => ⟨S1x1024x6, .f32⟩
  | 38 => ⟨S1x1024x1, .f32⟩
  | 39 => ⟨S4096x1024x6, .f32⟩
  | 40 => ⟨S4096x1024x6, .f32⟩
  | 41 => ⟨S4096x1024x6, .f32⟩
  | 42 => ⟨S4096x1024x6, .f32⟩
  | 43 => ⟨S4096x1024x6, .f32⟩
  | 44 => ⟨S4096x1024x6, .f32⟩
  | 45 => ⟨S4096x1024x6, .f32⟩
  | 46 => ⟨S4096x1024x6, .f32⟩
  | 47 => ⟨S_, .f32⟩
  | 48 => ⟨S4096x1024x6, .f32⟩
  | 49 => ⟨S4096x1024x6, .f32⟩
  | 50 => ⟨S_, .f32⟩
  | 51 => ⟨S4096x1024x6, .f32⟩
  | 52 => ⟨S4096x1024x6, .f32⟩
  | 53 => ⟨S4096x1024x6, .f32⟩
  | 54 => ⟨S4096x1024x6, .f32⟩
  | 55 => ⟨S_, .f32⟩
  | 56 => ⟨S1x1024x6, .f32⟩
  | 57 => ⟨S1x1024x6, .f32⟩
  | 58 => ⟨S4096x1024x6, .f32⟩
  | 59 => ⟨S4096x1024x6, .f32⟩
  | 60 => ⟨S4096x1024x1, .f32⟩
  | 61 => ⟨S4096x1024, .f32⟩
  | 62 => ⟨S4096x1024x1, .f32⟩
  | 63 => ⟨S4096x1024, .f32⟩
  | 64 => ⟨S4096x1024, .f32⟩
  | 65 => ⟨S4096x1024x1, .f32⟩
  | 66 => ⟨S4096x1024, .f32⟩
  | 67 => ⟨S4096x1024, .f32⟩
  | 68 => ⟨S4096x1024x1, .f32⟩
  | 69 => ⟨S4096x1024, .f32⟩
  | 70 => ⟨S4096x1024, .f32⟩
  | 71 => ⟨S4096x1024x1, .f32⟩
  | 72 => ⟨S4096x1024, .f32⟩
  | 73 => ⟨S4096x1024, .f32⟩
  | 74 => ⟨S4096x1024x1, .f32⟩
  | 75 => ⟨S4096x1024, .f32⟩
  | 76 => ⟨S4096x1024, .f32⟩
  | 77 => ⟨S_, .f32⟩
  | 78 => ⟨S4096, .f32⟩
  | 79 => ⟨S4096x1, .f32⟩
  | 80 => ⟨S_, .f32⟩
  | 81 => ⟨S4096x1, .f32⟩
  | 82 => ⟨S4096x1, .f32⟩
  | 83 => ⟨S4096x1024, .f32⟩
  | 84 => ⟨S4096x1024, .f32⟩
  | 85 => ⟨S_, .f32⟩
  | 86 => ⟨S4096x1, .f32⟩
  | 87 => ⟨S128x1, .i32⟩
  | 88 => ⟨S128, .i32⟩
  | 89 => ⟨S128x1, .i32⟩
  | 90 => ⟨S128, .i32⟩
  | 91 => ⟨S_, .i32⟩
  | 92 => ⟨S128, .i32⟩
  | 93 => ⟨S128, .i1⟩
  | 94 => ⟨S_, .i32⟩
  | 95 => ⟨S128, .i32⟩
  | 96 => ⟨S128, .i32⟩
  | 97 => ⟨S128, .i32⟩
  | 98 => ⟨S128x1, .i32⟩
  | 99 => ⟨S1, .i32⟩
  | 100 => ⟨S_, .i32⟩
  | 101 => ⟨S128x1, .i32⟩
  | 102 => ⟨S128x1, .i1⟩
  | 103 => ⟨S1x1, .i32⟩
  | 104 => ⟨S128x1, .i32⟩
  | 105 => ⟨S128x1, .i1⟩
  | 106 => ⟨S128x1, .i1⟩
  | 107 => ⟨S_, .i1⟩
  | 108 => ⟨S128, .i1⟩
  | 109 => ⟨S4096x128, .f32⟩
  | 110 => ⟨S4096x128, .i1⟩
  | 111 => ⟨S_, .f32⟩
  | 112 => ⟨S4096x128, .f32⟩
  | 113 => ⟨S4096x128, .f32⟩
  | 114 => ⟨S_, .i32⟩
  | 115 => ⟨S128, .i32⟩
  | 116 => ⟨S128, .i1⟩
  | 117 => ⟨S_, .i32⟩
  | 118 => ⟨S128, .i32⟩
  | 119 => ⟨S128, .i32⟩
  | 120 => ⟨S128, .i32⟩
  | 121 => ⟨S128x1, .i32⟩
  | 122 => ⟨S1, .i32⟩
  | 123 => ⟨S_, .i32⟩
  | 124 => ⟨S128x1, .i32⟩
  | 125 => ⟨S128x1, .i1⟩
  | 126 => ⟨S1x1, .i32⟩
  | 127 => ⟨S128x1, .i32⟩
  | _ => ⟨S4096x128, .f32⟩

abbrev hbmTy0_1 (i : Nat) : BufTy := match i % 128 with
  | 0 => ⟨S128x1, .i1⟩
  | 1 => ⟨S128x1, .i1⟩
  | 2 => ⟨S_, .i1⟩
  | 3 => ⟨S128, .i1⟩
  | 4 => ⟨S4096x128, .f32⟩
  | 5 => ⟨S4096x128, .i1⟩
  | 6 => ⟨S_, .f32⟩
  | 7 => ⟨S4096x128, .f32⟩
  | 8 => ⟨S4096x128, .f32⟩
  | 9 => ⟨S4096x128, .f32⟩
  | 10 => ⟨S4096x128, .f32⟩
  | 11 => ⟨S4096x385, .f32⟩
  | 12 => ⟨S385x1024, .f32⟩
  | 13 => ⟨S4096x1024, .f32⟩
  | 14 => ⟨S4096x1024, .f32⟩
  | 15 => ⟨S_, .f32⟩
  | 16 => ⟨S4096, .f32⟩
  | 17 => ⟨S4096x1, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst : Ref sig .tc := ⟨.hbm, 47, rfl⟩
abbrev main_v16 : Ref sig .tc := ⟨.hbm, 48, rfl⟩
abbrev main_v17 : Ref sig .tc := ⟨.hbm, 49, rfl⟩
abbrev main_cst_0 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_1 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_2 : Ref sig .tc := ⟨.hbm, 77, rfl⟩
abbrev main_v43 : Ref sig .tc := ⟨.hbm, 78, rfl⟩
abbrev main_v44 : Ref sig .tc := ⟨.hbm, 79, rfl⟩
abbrev main_cst_3 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_4 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_call1_c : Ref sig .tc := ⟨.hbm, 91, rfl⟩
abbrev main_call1_v0 : Ref sig .tc := ⟨.hbm, 92, rfl⟩
abbrev main_call1_v1 : Ref sig .tc := ⟨.hbm, 93, rfl⟩
abbrev main_call1_c_0 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_c_1 : Ref sig .tc := ⟨.hbm, 99, rfl⟩
abbrev main_call1_c_2 : Ref sig .tc := ⟨.hbm, 100, rfl⟩
abbrev main_call1_v6 : Ref sig .tc := ⟨.hbm, 101, rfl⟩
abbrev main_call1_v7 : Ref sig .tc := ⟨.hbm, 102, rfl⟩
abbrev main_call1_v8 : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_call1_c_3 : Ref sig .tc := ⟨.hbm, 107, rfl⟩
abbrev main_call1_v12 : Ref sig .tc := ⟨.hbm, 108, rfl⟩
abbrev main_call1_v13 : Ref sig .tc := ⟨.hbm, 109, rfl⟩
abbrev main_call1_v14 : Ref sig .tc := ⟨.hbm, 110, rfl⟩
abbrev main_call1_cst : Ref sig .tc := ⟨.hbm, 111, rfl⟩
abbrev main_call1_v15 : Ref sig .tc := ⟨.hbm, 112, rfl⟩
abbrev main_v54 : Ref sig .tc := ⟨.hbm, 113, rfl⟩
abbrev main_call2_c : Ref sig .tc := ⟨.hbm, 114, rfl⟩
abbrev main_call2_v0 : Ref sig .tc := ⟨.hbm, 115, rfl⟩
abbrev main_call2_v1 : Ref sig .tc := ⟨.hbm, 116, rfl⟩
abbrev main_call2_c_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_c_1 : Ref sig .tc := ⟨.hbm, 122, rfl⟩
abbrev main_call2_c_2 : Ref sig .tc := ⟨.hbm, 123, rfl⟩
abbrev main_call2_v6 : Ref sig .tc := ⟨.hbm, 124, rfl⟩
abbrev main_call2_v7 : Ref sig .tc := ⟨.hbm, 125, rfl⟩
abbrev main_call2_v8 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_c_3 : Ref sig .tc := ⟨.hbm, 130, rfl⟩
abbrev main_call2_v12 : Ref sig .tc := ⟨.hbm, 131, rfl⟩
abbrev main_call2_v13 : Ref sig .tc := ⟨.hbm, 132, rfl⟩
abbrev main_call2_v14 : Ref sig .tc := ⟨.hbm, 133, rfl⟩
abbrev main_call2_cst : Ref sig .tc := ⟨.hbm, 134, rfl⟩
abbrev main_call2_v15 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_cst_5 : Ref sig .tc := ⟨.hbm, 143, rfl⟩
abbrev main_v62 : Ref sig .tc := ⟨.hbm, 144, rfl⟩
abbrev main_v63 : Ref sig .tc := ⟨.hbm, 145, rfl⟩

abbrev nD : Nat := 1
abbrev τ : Topo := Topo.v7x

variable {F : FTy → Type} [FloatOps F]
-- ==== Proof.KernelPlane.lean ====
module

public import proofs.«01_k».proof.Proof.Gen.KernelIdeal.Value
public import Idealize.ShloMosaic.Lib.Pipeline.ValueKit
public import Idealize.ShloMosaic.Lib.Pointwise
public import Idealize.ShloMosaic.Lib.IdealHost

@[expose] public section

set_option maxRecDepth 16384

noncomputable section

namespace Cert.KernelIdeal.Plane

open Cert.KernelIdeal Cert.KernelIdeal.Gen Idealize.ShloMosaic Idealize.ShloMosaic.TcCoe

/-- A rule's steepness along its six literals. -/
def steep (beta : FVec Ideal S1024 .f32) : FVec Ideal S1024x6 .f32 :=
  broadcastInDim S1024x6 ![0, 1] bcast_S1024x1_S1024x6_0_1 (broadcastInDim S1024x1 ![0] bcast_S1024_S1024x1_0 beta)

/-- Three rule tables laid out literal by literal, a row each. -/
def ruleRows (u v w : FVec Ideal S1024x6 .f32) : FVec Ideal S3x6144 .f32 :=
  shapeCast S3x6144 (transpose S3x6x1024 [0, 2, 1]
    (concatenate S3x1024x6 0 [
      ⟨S1x1024x6, broadcastInDim S1x1024x6 ![1, 2] bcast_S1024x6_S1x1024x6_1_2 u⟩,
      ⟨S1x1024x6, broadcastInDim S1x1024x6 ![1, 2] bcast_S1024x6_S1x1024x6_1_2 v⟩,
      ⟨S1x1024x6, broadcastInDim S1x1024x6 ![1, 2] bcast_S1024x6_S1x1024x6_1_2 w⟩]
      concatenates_S1x1024x6_S1x1024x6_S1x1024x6_S3x1024x6_d0) transposes_S3x1024x6_S3x6x1024_0_2_1) shapeCasts_S3x6x1024_S3x6144

/-- A vector of 128 numbers as a row of the plane, zeros behind it. -/
def padRow (x : FVec Ideal S128 .f32) : FVec Ideal S1x6144 .f32 :=
  pad S1x6144 ![0, 0] ![0, 6016] ![0, 0] (broadcastInDim S1x128 ![1] bcast_S128_S1x128_1 x) (sitofp .f32 (constantI S_ 32 0#32)) pads_S1x128_S1x6144_000_060160 h_S_

/-- The eight rows of parameters, one under the other. -/
def stack (r : FVec Ideal S3x6144 .f32) (p q a : FVec Ideal S1x6144 .f32) : FVec Ideal S8x6144 .f32 :=
  concatenate S8x6144 0 [⟨S3x6144, r⟩, ⟨S1x6144, p⟩, ⟨S1x6144, q⟩, ⟨S1x6144, a⟩,
    ⟨S2x6144, broadcastInDim S2x6144 ![] bcast_S_S2x6144 (constant S_ .f32 0x00000000#32)⟩]
    concatenates_S3x6144_S1x6144_S1x6144_S1x6144_S2x6144_S8x6144_d0

/-- The parameter plane the kernel reads. -/
def planeT (idx : IVec S1024x6 32) (thr sgn : FVec Ideal S1024x6 .f32) (beta : FVec Ideal S1024 .f32)
    (att : FVec Ideal S128 .f32) (pairs : IVec S128x2 32) : FVec Ideal S8x6144 .f32 :=
  stack (ruleRows (mulf sgn (steep beta)) (mulf (mulf sgn thr) (steep beta)) (sitofp .f32 idx))
    (padRow (sitofp .f32 (shapeCast S128 (extractStridedSlice S128x1 ![0, 0] pairs slices_S128x2_S128x1_0_0) shapeCasts_S128x1_S128)))
    (padRow (sitofp .f32 (shapeCast S128 (extractStridedSlice S128x1 ![0, 1] pairs slices_S128x2_S128x1_0_1) shapeCasts_S128x1_S128)))
    (padRow att)

/-- The conclusion weights the kernel reads, zeros behind each row. -/
def cpT (cp : FVec Ideal S1024x385 .f32) : FVec Ideal S1024x512 .f32 :=
  pad S1024x512 ![0, 0] ![0, 127] ![0, 0] cp (sitofp .f32 (constantI S_ 32 0#32)) pads_S1024x385_S1024x512_000_01270 h_S_

variable (m : (ℓ : Loc nD τ sig) → Buf (Elt Ideal) ℓ) (c : Dev nD)

/-- What the region finds in the parameter plane. -/
theorem plane_eq : V m c main_v26 = planeT (m ((c : Thread nD τ).loc main_arg1)) (m ((c : Thread nD τ).loc main_arg2))
    (m ((c : Thread nD τ).loc main_arg3)) (m ((c : Thread nD τ).loc main_arg5)) (m ((c : Thread nD τ).loc main_arg7))
    (m ((c : Thread nD τ).loc main_arg8)) := rfl

/-- What the region finds in the padded conclusion weights. -/
theorem cp_eq : V m c main_v27 = cpT (m ((c : Thread nD τ).loc main_arg6)) := rfl

/-- Where each point's blocks lie: the input moves, the two tables stay. -/
theorem idx : ∀ t : Fin cfg0.N, win0_0.index t = ![t.val, 0] ∧ win0_1.index t = ![0, 0] ∧ win0_2.index t = ![0, 0] :=
  (by decide +kernel : ∀ t : Fin grid0.N, _)

/-- Every point's second block is the whole parameter plane. -/
theorem blk1 (t : Fin cfg0.N) : iblk m c 1 t = V m c main_v26 := by
  blk_ext! [iblk, idx t]

/-- Every point's third block is the whole padded table of conclusion weights. -/
theorem blk2 (t : Fin cfg0.N) : iblk m c 2 t = V m c main_v27 := by
  blk_ext! [iblk, idx t]

/-- A point's first block is its 2048 rows of the input. -/
theorem blk0 (t : Fin cfg0.N) (b : Fin 2048) (f : Fin 128) : iblk m c 0 t (ix2 b f)
    = m ((c : Thread nD τ).loc main_arg0) (ix2 ⟨t.val * 2048 + b.val, by have : t.val < 2 := Nat.lt_of_lt_of_eq t.isLt N_0; omega⟩ f) := by
  blk_ext! [iblk, V, idx t]

/-- The padding number is zero. -/
theorem pad_zero : (FloatOps.sitofp .f32 0#32 : Ideal .f32) = 0 := by
  show (((0#32 : BitVec 32).toInt : ℝ) : EReal) = 0
  simp

section rows
variable (u v w : FVec Ideal S1024x6 .f32) (p q a : FVec Ideal S1x6144 .f32) (r : Fin 1024) (l : Fin 6)

/-- The first table is row 0, literal by literal. -/
theorem rule0 : ruleRows u v w (ix2 (0 : Fin 3) ⟨l.val * 1024 + r.val, by omega⟩) = u (ix2 r l) := by
  pointwise [ruleRows]
/-- The second table is row 1. -/
theorem rule1 : ruleRows u v w (ix2 (1 : Fin 3) ⟨l.val * 1024 + r.val, by omega⟩) = v (ix2 r l) := by
  pointwise [ruleRows]
/-- The third table is row 2. -/
theorem rule2 : ruleRows u v w (ix2 (2 : Fin 3) ⟨l.val * 1024 + r.val, by omega⟩) = w (ix2 r l) := by
  pointwise [ruleRows]
/-- The first 128 entries of a padded row. -/
theorem padRow_apply (x : FVec Ideal S128 .f32) (f : Fin 128) :
    padRow x (ix2 (0 : Fin 1) ⟨f.val, by omega⟩) = x (ix1 f) := by
  pointwise [padRow]
/-- Row 0 of the stack. -/
theorem stack0 (R : FVec Ideal S3x6144 .f32) (k : Fin 6144) : stack R p q a (ix2 (0 : Fin 8) k) = R (ix2 (0 : Fin 3) k) := by
  pointwise [stack]
/-- Row 1 of the stack. -/
theorem stack1 (R : FVec Ideal S3x6144 .f32) (k : Fin 6144) : stack R p q a (ix2 (1 : Fin 8) k) = R (ix2 (1 : Fin 3) k) := by
  pointwise [stack]
/-- Row 2 of the stack. -/
theorem stack2 (R : FVec Ideal S3x6144 .f32) (k : Fin 6144) : stack R p q a (ix2 (2 : Fin 8) k) = R (ix2 (2 : Fin 3) k) := by
  pointwise [stack]
/-- Row 3 of the stack. -/
theorem stack3 (R : FVec Ideal S3x6144 .f32) (k : Fin 6144) : stack R p q a (ix2 (3 : Fin 8) k) = p (ix2 (0 : Fin 1) k) := by
  pointwise [stack]
/-- Row 4 of the stack. -/
theorem stack4 (R : FVec Ideal S3x6144 .f32) (k : Fin 6144) : stack R p q a (ix2 (4 : Fin 8) k) = q (ix2 (0 : Fin 1) k) := by
  pointwise [stack]
/-- Row 5 of the stack. -/
theorem stack5 (R : FVec Ideal S3x6144 .f32) (k : Fin 6144) : stack R p q a (ix2 (5 : Fin 8) k) = a (ix2 (0 : Fin 1) k) := by
  pointwise [stack]
end rows

/-- The padded conclusion weights: the weights, then zeros. -/
theorem cpT_apply (cp : FVec Ideal S1024x385 .f32) (r : Fin 1024) (k : Fin 512) :
    cpT cp (ix2 r k) = if h : k.val < 385 then cp (ix2 r ⟨k.val, h⟩) else 0 := by
  pointwise [cpT]
  rw [pad_zero]

section plane
variable (idx : IVec S1024x6 32) (thr sgn : FVec Ideal S1024x6 .f32) (beta : FVec Ideal S1024 .f32)
  (att : FVec Ideal S128 .f32) (pairs : IVec S128x2 32) (r : Fin 1024) (l : Fin 6) (f : Fin 128)

/-- Row 0 of the plane holds sign times steepness. -/
theorem plane0 : planeT idx thr sgn beta att pairs (ix2 (0 : Fin 8) ⟨l.val * 1024 + r.val, by omega⟩)
    = sgn (ix2 r l) * beta (ix1 r) := by
  rw [planeT, stack0, rule0]; pointwise [steep]

/-- Row 1 of the plane holds sign times threshold times steepness. -/
theorem plane1 : planeT idx thr sgn beta att pairs (ix2 (1 : Fin 8) ⟨l.val * 1024 + r.val, by omega⟩)
    = sgn (ix2 r l) * thr (ix2 r l) * beta (ix1 r) := by
  rw [planeT, stack1, rule1]; pointwise [steep]

/-- Row 2 of the plane holds the feature numbers. -/
theorem plane2 : planeT idx thr sgn beta att pairs (ix2 (2 : Fin 8) ⟨l.val * 1024 + r.val, by omega⟩)
    = FloatOps.sitofp .f32 (idx (ix2 r l)) := by
  rw [planeT, stack2, rule2]; pointwise

/-- Row 3 of the plane holds the pairs' first feature numbers. -/
theorem plane3 : planeT idx thr sgn beta att pairs (ix2 (3 : Fin 8) ⟨f.val, by omega⟩)
    = FloatOps.sitofp .f32 (pairs (ix2 f (0 : Fin 2))) := by
  rw [planeT, stack3, padRow_apply]; pointwise

/-- Row 4 of the plane holds the pairs' second feature numbers. -/
theorem plane4 : planeT idx thr sgn beta att pairs (ix2 (4 : Fin 8) ⟨f.val, by omega⟩)
    = FloatOps.sitofp .f32 (pairs (ix2 f (1 : Fin 2))) := by
  rw [planeT, stack4, padRow_apply]; pointwise

/-- Row 5 of the plane holds the attention weights. -/
theorem plane5 : planeT idx thr sgn beta att pairs (ix2 (5 : Fin 8) ⟨f.val, by omega⟩) = att (ix1 f) := by
  rw [planeT, stack5, padRow_apply]

end plane

end Cert.KernelIdeal.Plane

end
-- ==== Proof.KernelPay.lean ====
module

public import proofs.«01_k».proof.Proof.Gen.KernelIdeal.Value
public import Idealize.ShloMosaic.Lib.Pipeline.ValueKit
public import Idealize.ShloMosaic.Lib.Pointwise
public import Idealize.ShloMosaic.Lib.IdealHost

@[expose] public section

set_option maxRecDepth 16384

noncomputable section

namespace Cert.KernelIdeal.Pay

open Cert.KernelIdeal Cert.KernelIdeal.Gen Idealize.ShloMosaic Idealize.ShloMosaic.TcCoe

/-- The reciprocal of the natural logarithm of two. -/
def lg : EReal := (((Real.log 2)⁻¹ : ℝ) : EReal)

/-- Its negative. -/
def nlg : EReal := ((-((Real.log 2)⁻¹) : ℝ) : EReal)

/-- The constant named `log2e` is that reciprocal. -/
theorem named_lg : (Named.named κ "log2e" 1069066811#32 : Ideal .f32) = lg := by
  rfl

/-- The constant named `neg_log2e` is its negative. -/
theorem named_nlg : (Named.named κ "neg_log2e" 3216550459#32 : Ideal .f32) = nlg := by
  rfl

/-- A literal's column at a row: the scaled sign where the row is the literal's feature. -/
theorem lit_apply (a n : FVec Ideal S1x6144 .f32) (f : Fin 128) (k : Fin 6144) : k0_pay2 (F := Ideal) a n (ix2 f k)
    = Scalar.select (IntOp.cmpi .eq (BitVec.ofNat 32 f.val) (FloatOps.fptosi 32 (n (ix2 (0 : Fin 1) k)))) (a (ix2 (0 : Fin 1) k) * nlg) 0 := by
  rw [← named_nlg]
  pointwise [k0_pay2]

/-- A pair's column at a row, for the first features. -/
theorem fst_apply (n : FVec Ideal S1x128 .f32) (f k : Fin 128) : k0_pay3 (F := Ideal) n (ix2 f k)
    = FloatOps.sitofp .f32 (BitVec.setWidth 32 (IntOp.cmpi .eq (BitVec.ofNat 32 f.val) (FloatOps.fptosi 32 (n (ix2 (0 : Fin 1) k))))) := by
  pointwise [k0_pay3]

/-- A pair's column at a row, for the second features. -/
theorem snd_apply (n : FVec Ideal S1x128 .f32) (f k : Fin 128) : k0_pay4 (F := Ideal) n (ix2 f k)
    = FloatOps.sitofp .f32 (BitVec.setWidth 32 (IntOp.cmpi .eq (BitVec.ofNat 32 f.val) (FloatOps.fptosi 32 (n (ix2 (0 : Fin 1) k))))) := by
  pointwise [k0_pay4]

/-- The input times the attention weights. -/
theorem xa_apply (x : FVec Ideal S2048x128 .f32) (a : FVec Ideal S1x128 .f32) (b : Fin 2048) (f : Fin 128) :
    k0_pay5 (F := Ideal) x a (ix2 b f) = x (ix2 b f) * a (ix2 (0 : Fin 1) f) := by
  pointwise [k0_pay5]

/-- The first product: the weighted input against the columns. -/
theorem dot_apply (x : FVec Ideal S2048x128 .f32) (a : FVec Ideal S1x128 .f32) (w : FVec Ideal S128x6400 .f32) (b : Fin 2048) (k : Fin 6400) :
    k0_pay6 (F := Ideal) x a w (ix2 b k) = ∑ f : Fin 128, k0_pay5 (F := Ideal) x a (ix2 b f) * w (ix2 f k) := by
  pointwise [k0_pay6]

/-- One literal's denominator: one plus the exponential of its column plus its shift. -/
def den (x : FVec Ideal S2048x128 .f32) (a : FVec Ideal S1x128 .f32) (s : FVec Ideal S1x6144 .f32) (w : FVec Ideal S128x6400 .f32) (b : Fin 2048)
    (r : Fin 1024) (l : Fin 6) : EReal :=
  1 + FloatOps.exp2 (F := Ideal) (φ := .f32) (k0_pay6 (F := Ideal) x a w (ix2 b ⟨l.val * 1024 + r.val, by omega⟩) + s (ix2 (0 : Fin 1) ⟨l.val * 1024 + r.val, by omega⟩) * lg)

/-- The firing strength: one over the product of the six denominators. -/
theorem fire_apply (x : FVec Ideal S2048x128 .f32) (a : FVec Ideal S1x128 .f32) (s : FVec Ideal S1x6144 .f32) (w : FVec Ideal S128x6400 .f32) (b : Fin 2048)
    (r : Fin 1024) : k0_pay7 (F := Ideal) x a s w (ix2 b r)
    = Ideal.div 1 (den x a s w b r 0 * den x a s w b r 1 * den x a s w b r 2 * den x a s w b r 3 * den x a s w b r 4 * den x a s w b r 5) := by
  simp only [den, ← named_lg]
  pointwise [k0_pay7]

/-- The features: the weighted input, its squares, the pairs' products, a one and zeros. -/
theorem poly_apply (x : FVec Ideal S2048x128 .f32) (a : FVec Ideal S1x128 .f32) (w : FVec Ideal S128x6400 .f32) (b : Fin 2048) (k : Fin 512) :
    k0_pay8 (F := Ideal) x a w (ix2 b k) =
      if h : k.val < 128 then k0_pay5 (F := Ideal) x a (ix2 b ⟨k.val, h⟩)
      else if h' : k.val - 128 < 128 then k0_pay5 (F := Ideal) x a (ix2 b ⟨k.val - 128, h'⟩) * k0_pay5 (F := Ideal) x a (ix2 b ⟨k.val - 128, h'⟩)
      else if h'' : k.val - 128 - 128 < 128 then
        k0_pay6 (F := Ideal) x a w (ix2 b ⟨6144 + (k.val - 128 - 128), by omega⟩) * k0_pay6 (F := Ideal) x a w (ix2 b ⟨6272 + (k.val - 128 - 128), by omega⟩)
      else FloatOps.sitofp .f32 (BitVec.setWidth 32 (IntOp.cmpi .eq (BitVec.ofNat 32 (k.val - 128 - 128 - 128)) 0#32)) := by
  pointwise [k0_pay8]

/-- The output row: the rules' outputs weighted by the firing strengths, over their total. -/
theorem out_apply (fire : FVec Ideal S2048x1024 .f32) (poly : FVec Ideal S2048x512 .f32) (cp : FVec Ideal S1024x512 .f32) (b : Fin 2048) :
    k0_pay1 (F := Ideal) fire poly cp (ix2 b (0 : Fin 1))
      = Ideal.div (∑ r : Fin 1024, fire (ix2 b r) * ∑ k : Fin 512, poly (ix2 b k) * cp (ix2 r k))
          (∑ r : Fin 1024, fire (ix2 b r) + Ideal.ofBits .f32 841731191#32) := by
  pointwise [k0_pay1]

end Cert.KernelIdeal.Pay

end
-- ==== Proof.KernelScratch.lean ====
module

public import proofs.«01_k».proof.Proof.KernelPlane
public import proofs.«01_k».proof.Proof.KernelPay

@[expose] public section

set_option maxRecDepth 16384

noncomputable section

namespace Cert.KernelIdeal.Scratch

open Cert.KernelIdeal Cert.KernelIdeal.Gen Idealize.ShloMosaic Idealize.ShloMosaic.TcCoe

/-- The columns the first point builds from the parameter plane, as its three stores leave them. -/
def wsel (P : FVec Ideal S8x6144 .f32) : FVec Ideal S128x6400 .f32 :=
  View.canon [
    (⟨Rect.unit ![0, 6272] ![128, 128] inb_S128x6400_S128x128_0_6272, k0_pay4 (View.ld (Val := Elt Ideal) (e' := .f32) P (Rect.unit ![4, 0] ![1, 128] inb_S8x6144_S1x128_4_0))⟩ : View.Piece (Elt Ideal) S128x6400 .f32),
    ⟨Rect.unit ![0, 6144] ![128, 128] inb_S128x6400_S128x128_0_6144, k0_pay3 (View.ld (Val := Elt Ideal) (e' := .f32) P (Rect.unit ![3, 0] ![1, 128] inb_S8x6144_S1x128_3_0))⟩,
    ⟨Rect.unit ![0, 0] ![128, 6144] inb_S128x6400_S128x6144_0_0, k0_pay2 (View.ld (Val := Elt Ideal) (e' := .f32) P (Rect.unit ![0, 0] ![1, 6144] inb_S8x6144_S1x6144_0_0)) (View.ld (Val := Elt Ideal) (e' := .f32) P (Rect.unit ![2, 0] ![1, 6144] inb_S8x6144_S1x6144_2_0))⟩]

/-- A literal's column: its scaled sign at the row of its feature, zero elsewhere. -/
def colA (P : FVec Ideal S8x6144 .f32) (f : Fin 128) (k : Fin 6144) : Ideal .f32 :=
  Scalar.select (IntOp.cmpi .eq (BitVec.ofNat 32 f.val) (FloatOps.fptosi (F := Ideal) (φ := .f32) 32 (P (ix2 (2 : Fin 8) k))))
    (P (ix2 (0 : Fin 8) k) * Pay.nlg) 0

/-- A pair's column: one at the row of its feature, zero elsewhere. -/
def colP (P : FVec Ideal S8x6144 .f32) (r : Fin 8) (f k : Fin 128) : Ideal .f32 :=
  FloatOps.sitofp .f32 (BitVec.setWidth 32 (IntOp.cmpi .eq (BitVec.ofNat 32 f.val) (FloatOps.fptosi (F := Ideal) (φ := .f32) 32 (P (ix2 r ⟨k.val, by omega⟩)))))

variable (P : FVec Ideal S8x6144 .f32) (f : Fin 128)

/-- A load of one of the plane's rows, at an entry. -/
theorem ld_row (q : Fin 8) (n : Nat) (hn : n ≤ 6144) (inb) (k : Fin n) :
    View.ld (Val := Elt Ideal) (e' := .f32) P (Rect.unit (s := S8x6144) ![q.val, 0] ![1, n] inb) (ix2 (0 : Fin 1) k)
      = P (ix2 q ⟨k.val, by omega⟩) :=
  View.ld_unit_apply_of (Val := Elt Ideal) (e := .f32) P _ _ _ _ _ (by intro a; fin_cases a <;> simp)

/-- The first 6144 columns are the literals'. -/
theorem wsel_lit (k : Fin 6144) : wsel P (ix2 f ⟨k.val, by omega⟩) = colA P f k := by
  unfold wsel
  canon_tiles x h using (View.cover_of_tiledBy _ ![128, 128] (by sl_kernel_rfl) _)
  all_goals (change f.val = _ at h0; change k.val = _ at h1)
  · omega
  · omega
  · obtain rfl : x = ix2 f k := (eq_ix2 x).trans (congrArg₂ ix2 (Fin.ext h0.symm) (Fin.ext (by omega)))
    refine (Pay.lit_apply _ _ f k).trans ?_
    unfold colA
    rw [← ld_row P 0 6144 (by decide) inb_S8x6144_S1x6144_0_0 k, ← ld_row P 2 6144 (by decide) inb_S8x6144_S1x6144_2_0 k]
    rfl

/-- The next 128 are the pairs' first features'. -/
theorem wsel_fst (k : Fin 128) : wsel P (ix2 f ⟨6144 + k.val, by omega⟩) = colP P 3 f k := by
  unfold wsel
  canon_tiles x h using (View.cover_of_tiledBy _ ![128, 128] (by sl_kernel_rfl) _)
  all_goals (change f.val = _ at h0; change 6144 + k.val = _ at h1)
  · omega
  · obtain rfl : x = ix2 f k := (eq_ix2 x).trans (congrArg₂ ix2 (Fin.ext h0.symm) (Fin.ext (by omega)))
    refine (Pay.fst_apply _ f k).trans ?_
    unfold colP
    rw [← ld_row P 3 128 (by decide) inb_S8x6144_S1x128_3_0 k]
    rfl
  · omega

/-- The last 128 are the pairs' second features'. -/
theorem wsel_snd (k : Fin 128) : wsel P (ix2 f ⟨6272 + k.val, by omega⟩) = colP P 4 f k := by
  unfold wsel
  canon_tiles x h using (View.cover_of_tiledBy _ ![128, 128] (by sl_kernel_rfl) _)
  all_goals (change f.val = _ at h0; change 6272 + k.val = _ at h1)
  · obtain rfl : x = ix2 f k := (eq_ix2 x).trans (congrArg₂ ix2 (Fin.ext h0.symm) (Fin.ext (by omega)))
    refine (Pay.snd_apply _ f k).trans ?_
    unfold colP
    rw [← ld_row P 4 128 (by decide) inb_S8x6144_S1x128_4_0 k]
    rfl
  · omega
  · omega

end Cert.KernelIdeal.Scratch

end
-- ==== Proof.KernelArray.lean ====
module

public import proofs.«01_k».proof.Proof.KernelScratch
public import Idealize.ShloMosaic.Lib.Pipeline.ReadBack

@[expose] public section

set_option maxRecDepth 16384

noncomputable section

namespace Cert.KernelIdeal.Array

open Cert.KernelIdeal Cert.KernelIdeal.Gen Cert.KernelIdeal.Scratch Idealize.ShloMosaic Idealize.ShloMosaic.TcCoe

/-- The attention weights, as a block loads them from the plane. -/
def attOf (P : FVec Ideal S8x6144 .f32) : FVec Ideal S1x128 .f32 :=
  View.ld (Val := Elt Ideal) (e' := .f32) P (Rect.unit ![5, 0] ![1, 128] inb_S8x6144_S1x128_5_0)

/-- The literals' shifts, as a block loads them from the plane. -/
def shiftOf (P : FVec Ideal S8x6144 .f32) : FVec Ideal S1x6144 .f32 :=
  View.ld (Val := Elt Ideal) (e' := .f32) P (Rect.unit ![1, 0] ![1, 6144] inb_S8x6144_S1x6144_1_0)

/-- What one block computes from its rows, the plane and the conclusion weights. -/
def blockT (x : FVec Ideal S2048x128 .f32) (P : FVec Ideal S8x6144 .f32) (cp : FVec Ideal S1024x512 .f32) : FVec Ideal S2048x1 .f32 :=
  k0_pay1 (F := Ideal) (k0_pay7 (F := Ideal) x (attOf P) (shiftOf P) (wsel P)) (k0_pay8 (F := Ideal) x (attOf P) (wsel P)) cp

variable (m : (ℓ : Loc nD τ sig) → Buf (Elt Ideal) ℓ) (c : Dev nD)

/-- After the first point the scratch holds the columns. -/
theorem scratch_A (n : Nat) (hn : n < cfg0.N) (h0 : n % 2 = 0) : (outsAt0 m c n hn).2 = wsel (V m c main_v26) := by
  funext y
  rw [outsAt0_A m c ⟨n, hn⟩ h0]
  dsimp only
  frame_out
  rw [Plane.blk1]

/-- The first point's block. -/
theorem out_A (n : Nat) (hn : n < cfg0.N) (h0 : n % 2 = 0) :
    (outsAt0 m c n hn).1 = blockT (iblk m c 0 ⟨n, hn⟩) (V m c main_v26) (V m c main_v27) := by
  funext y
  rw [outsAt0_A m c ⟨n, hn⟩ h0]
  dsimp only
  frame_out
  have hw : ∀ L : List (View.Piece (Elt Ideal) S128x6400 .f32), (View.whole cc0_scratch0).readCov L (Rect.unit ![0, 0] ![128, 6400] inb_S128x6400_S128x6400_0_0).toLoadRect
      = View.canon L := by
    intro L
    rw [View.readCov_eq_canon']
    funext j
    congr 1
    funext a
    apply Fin.ext
    fin_cases a <;> simp
  rw [hw, Plane.blk1, Plane.blk2]
  rfl

/-- A later point's block, over the scratch the first one left. -/
theorem out_B (n : Nat) (hn : n < cfg0.N) (h0 : ¬ n % 2 = 0) (hp : (n - 1) % 2 = 0) :
    (outsAt0 m c n hn).1 = blockT (iblk m c 0 ⟨n, hn⟩) (V m c main_v26) (V m c main_v27) := by
  funext y
  rw [outsAt0_B m c ⟨n, hn⟩ h0]
  dsimp only
  frame_out
  rw [read_unread_whole, scratch_A m c (n - 1) _ hp, Plane.blk1, Plane.blk2]
  rfl

/-- What any point writes: its block. -/
theorem out (n : Nat) (hn : n < cfg0.N) :
    (outsAt0 m c n hn).1 = blockT (iblk m c 0 ⟨n, hn⟩) (V m c main_v26) (V m c main_v27) := by
  have hN : n < 2 := Nat.lt_of_lt_of_eq hn N_0
  by_cases h0 : n % 2 = 0
  · exact out_A m c n hn h0
  · exact out_B m c n hn h0 (by omega)

/-- The result array at a row: that row of its block. -/
theorem array (B : Fin 4096) : Value.G3 m c (ix2 B (0 : Fin 1))
    = blockT (iblk m c 0 ⟨B.val / 2048, Nat.lt_of_lt_of_eq (by omega) N_0.symm⟩) (V m c main_v26) (V m c main_v27)
        (ix2 ⟨B.val % 2048, by omega⟩ (0 : Fin 1)) := by
  have hp : Value.pt3Of (ix2 B (0 : Fin 1)) = B.val / 2048 := by
    show 1 * (B.val / 2048 - 0) + 1 * (0 / 1 - 0) = _
    omega
  have hB : B.val / 2048 < cfg0.N := Nat.lt_of_lt_of_eq (by omega) N_0.symm
  have hl : Value.loc3Of (ix2 B (0 : Fin 1)) = ix2 ⟨B.val % 2048, by omega⟩ (0 : Fin 1) := by
    funext a
    match a with
    | ⟨0, _⟩ => rfl
    | ⟨1, _⟩ => rfl
  have hb : Value.pt3Of (ix2 B (0 : Fin 1)) < cfg0.N := by rw [hp]; exact hB
  unfold Value.G3
  rw [dif_pos hb, ← Value.outsAt0_sweep m c _ hb, out, hl]
  congr 3

end Cert.KernelIdeal.Array

end
-- ==== Proof.Scalar.lean ====
module

public import Idealize.ShloMosaic.Lib.Pointwise
public import Idealize.ShloMosaic.Lib.IdealHost

@[expose] public section

set_option maxRecDepth 16384

noncomputable section

namespace Cert.Scalar01

open Idealize.ShloMosaic

/-- A feature number survives the trip through a float. -/
theorem round_trip (k : Fin 128) :
    FloatOps.fptosi (F := Ideal) (φ := .f32) 32 (FloatOps.sitofp (F := Ideal) .f32 (BitVec.ofNat 32 k.val)) = BitVec.ofNat 32 k.val := by
  have hi : (BitVec.ofNat 32 k.val).toInt = (k.val : Int) := by
    have := k.isLt
    rw [BitVec.toInt_eq_toNat_of_lt (by rw [BitVec.toNat_ofNat]; omega), BitVec.toNat_ofNat]; omega
  show Ideal.fptosi 32 (((BitVec.ofNat 32 k.val).toInt : ℝ) : EReal) = _
  rw [hi, Ideal.fptosi, Ideal.toIntClamped_coe]
  have h0 : (0 : ℝ) ≤ ((k.val : Int) : ℝ) := by positivity
  rw [if_pos h0, Int.floor_intCast]
  have hk := k.isLt
  rw [min_eq_right (by norm_num; omega), max_eq_right (by norm_num)]
  rw [BitVec.ofInt_natCast]

/-- Two feature numbers compare as they are. -/
theorem same (f k : Fin 128) : IntOp.cmpi .eq (BitVec.ofNat 32 f.val) (BitVec.ofNat 32 k.val) = if f = k then 1#1 else 0#1 := by
  have h : (BitVec.ofNat 32 f.val == BitVec.ofNat 32 k.val) = decide (f = k) := by
    rw [Bool.eq_iff_iff]
    simp only [beq_iff_eq, decide_eq_true_eq]
    constructor
    · intro h
      have := congrArg BitVec.toNat h
      simp only [BitVec.toNat_ofNat] at this
      apply Fin.ext; omega
    · rintro rfl; rfl
  show BitVec.ofBool (BitVec.ofNat 32 f.val == BitVec.ofNat 32 k.val) = _
  rw [h]; split <;> simp_all

/-- A one-hot entry made by selection. -/
theorem hot_select (f k : Fin 128) (a : EReal) :
    Scalar.select (IntOp.cmpi .eq (BitVec.ofNat 32 f.val) (BitVec.ofNat 32 k.val)) a 0 = if f = k then a else 0 := by
  rw [same]; by_cases h : f = k <;> simp [h, Scalar.select]

/-- A one-hot entry made by converting the comparison. -/
theorem hot_convert (f k : Fin 128) :
    (FloatOps.sitofp (F := Ideal) .f32 (BitVec.setWidth 32 (IntOp.cmpi .eq (BitVec.ofNat 32 f.val) (BitVec.ofNat 32 k.val))) : EReal) = if f = k then 1 else 0 := by
  rw [same]
  show ((((BitVec.setWidth 32 (if f = k then 1#1 else 0#1)).toInt : ℝ)) : EReal) = _
  by_cases h : f = k <;> simp [h]

/-- A row against a one-hot column is the row's entry there, scaled. -/
theorem sum_hot {n : Nat} (g : Fin n → EReal) (k : Fin n) (a : EReal) : (∑ f, g f * if f = k then a else 0) = g k * a := by
  rw [Finset.sum_eq_single k]
  · simp
  · intro f _ h; simp [h]
  · intro h; exact absurd (Finset.mem_univ k) h

/-- Two to a real scaled by the logarithm's reciprocal is the exponential. -/
theorem exp2_real (z : ℝ) : Ideal.exp2 ((z * (Real.log 2)⁻¹ : ℝ) : EReal) = Ideal.exp (z : EReal) := by
  show ((Real.rpow 2 (z * (Real.log 2)⁻¹) : ℝ) : EReal) = ((Real.exp z : ℝ) : EReal)
  congr 1
  have h2 : Real.log 2 ≠ 0 := ne_of_gt (Real.log_pos (by norm_num))
  show (2 : ℝ) ^ (z * (Real.log 2)⁻¹) = _
  rw [Real.rpow_def_of_pos (by norm_num)]
  congr 1
  field_simp

/-- The kernel's base-two exponent is the reference's exponent, whatever the input. -/
theorem exponent (x : EReal) (s t β : ℝ) :
    Ideal.exp2 (x * (((s : EReal) * (β : EReal)) * ((-((Real.log 2)⁻¹) : ℝ) : EReal))
        + (((s : EReal) * (t : EReal)) * (β : EReal)) * (((Real.log 2)⁻¹ : ℝ) : EReal))
      = Ideal.exp (-(((β : EReal) * (x - (t : EReal))) * (s : EReal))) := by
  have hl : 0 < (Real.log 2)⁻¹ := inv_pos.mpr (Real.log_pos (by norm_num))
  set l := (Real.log 2)⁻¹ with hldef
  have e1 : ((s : EReal) * (β : EReal)) * ((-l : ℝ) : EReal) = ((s * β * -l : ℝ) : EReal) := by push_cast; rfl
  have e2 : (((s : EReal) * (t : EReal)) * (β : EReal)) * (l : EReal) = ((s * t * β * l : ℝ) : EReal) := by push_cast; rfl
  have e3 : ∀ y : EReal, ((β : EReal) * y) * (s : EReal) = y * ((s * β : ℝ) : EReal) := by
    intro y; push_cast; rw [mul_comm (β : EReal) y, mul_assoc, mul_comm (β : EReal)]
  rw [e1, e2, e3]
  induction x with
  | coe x =>
    rw [← EReal.coe_mul, ← EReal.coe_add, ← EReal.coe_sub, ← EReal.coe_mul, ← EReal.coe_neg, ← exp2_real]
    congr 2
    rw [← hldef]; ring
  | top =>
    rw [EReal.top_sub_coe]
    rcases lt_trichotomy (s * β) 0 with h | h | h
    · rw [EReal.top_mul_coe_of_neg h, EReal.top_mul_coe_of_pos (by nlinarith), EReal.neg_bot, EReal.top_add_coe]; rfl
    · rw [h]
      have : s * t * β * l = 0 := by rw [show s * t * β = s * β * t by ring, h]; ring
      rw [this]; simp
      exact (exp2_real 0 ▸ by simp)
    · rw [EReal.top_mul_coe_of_pos h, EReal.top_mul_coe_of_neg (by nlinarith), EReal.neg_top, EReal.bot_add]; rfl
  | bot =>
    rw [EReal.bot_sub]
    rcases lt_trichotomy (s * β) 0 with h | h | h
    · rw [EReal.bot_mul_coe_of_neg h, EReal.bot_mul_coe_of_pos (by nlinarith), EReal.neg_top, EReal.bot_add]; rfl
    · rw [h]
      have : s * t * β * l = 0 := by rw [show s * t * β = s * β * t by ring, h]; ring
      rw [this]; simp
      exact (exp2_real 0 ▸ by simp)
    · rw [EReal.bot_mul_coe_of_pos h, EReal.bot_mul_coe_of_neg (by nlinarith), EReal.neg_bot, EReal.top_add_coe]; rfl

/-- An exponential is not negative. -/
theorem exp_nonneg (x : EReal) : 0 ≤ Ideal.exp x := by
  induction x with
  | coe x => exact EReal.coe_nonneg.mpr (Real.exp_pos x).le
  | top => exact le_top
  | bot => exact le_refl _

/-- A reciprocal of a number that is at least one is a real between nothing and one. -/
theorem recip_real (q : EReal) (h : 1 ≤ q) : ∃ p : ℝ, 0 ≤ p ∧ Ideal.div 1 q = (p : EReal) ∧ q⁻¹ = (p : EReal) := by
  have h0 : 0 < q := lt_of_lt_of_le zero_lt_one h
  have hd : Ideal.div 1 q = q⁻¹ := by rw [Ideal.div, if_neg h0.ne', one_mul]
  rw [hd]
  induction q with
  | coe q => exact ⟨q⁻¹, inv_nonneg.mpr (EReal.coe_nonneg.mp h0.le), (EReal.coe_inv q).symm, (EReal.coe_inv q).symm⟩
  | top => exact ⟨0, le_refl _, EReal.inv_top, EReal.inv_top⟩
  | bot => exact absurd h0 (by simp)

/-- The reciprocal of a product is the product of reciprocals. -/
theorem recip_prod (q : Fin 6 → EReal) (h : ∀ l, 1 ≤ q l) :
    Ideal.div 1 (q 0 * q 1 * q 2 * q 3 * q 4 * q 5)
      = Ideal.div 1 (q 0) * Ideal.div 1 (q 1) * Ideal.div 1 (q 2) * Ideal.div 1 (q 3) * Ideal.div 1 (q 4) * Ideal.div 1 (q 5) := by
  have h0 : ∀ l, 0 < q l := fun l => lt_of_lt_of_le zero_lt_one (h l)
  have hd : ∀ l, Ideal.div 1 (q l) = (q l)⁻¹ := fun l => by rw [Ideal.div, if_neg (h0 l).ne', one_mul]
  have hp : q 0 * q 1 * q 2 * q 3 * q 4 * q 5 ≠ 0 := by
    simp [mul_eq_zero, (h0 _).ne']
  rw [Ideal.div, if_neg hp, one_mul]
  simp only [hd, EReal.mul_inv]

/-- A masked value under a mask of one is the value. -/
theorem masked (x : EReal) : x * 1 + (1 - 1) = x := by
  rw [mul_one, show (1 : EReal) - 1 = 0 by rw [← EReal.coe_one, ← EReal.coe_sub]; simp, add_zero]

/-- A sum of terms each over one positive real is the sum over it. -/
theorem sum_over {ι : Type} (s : Finset ι) (f : ι → EReal) (d : ℝ) (hd : 0 < d) :
    (∑ i ∈ s, f i) * (d : EReal) = ∑ i ∈ s, f i * (d : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hd.le) (EReal.coe_ne_top d) _ _

/-- The small constant is a positive real. -/
theorem eps_real : ∃ e : ℝ, 0 < e ∧ Ideal.ofBits .f32 841731191#32 = (e : EReal) := by
  refine ⟨_, ?_, by simp [Ideal.ofBits, Ideal.ieee]; rfl⟩
  positivity

/-- A finite sum of reals, taken among the extended reals. -/
theorem sum_coe {ι : Type} (s : Finset ι) (p : ι → ℝ) : ((∑ i ∈ s, p i : ℝ) : EReal) = ∑ i ∈ s, (p i : EReal) := by
  classical
  induction s using Finset.induction_on with
  | empty => simp
  | insert a s ha ih => rw [Finset.sum_insert ha, Finset.sum_insert ha, EReal.coe_add, ih]

/-- The weighted mean: dividing each weight by the total is dividing the sum by it. -/
theorem mean (fire ro : Fin 1024 → EReal) (h : ∀ r, ∃ p : ℝ, 0 ≤ p ∧ fire r = (p : EReal)) :
    (∑ r, Ideal.div (fire r) (∑ r, fire r + Ideal.ofBits .f32 841731191#32) * ro r)
      = Ideal.div (∑ r, fire r * ro r) (∑ r, fire r + Ideal.ofBits .f32 841731191#32) := by
  obtain ⟨e, he, hE⟩ := eps_real
  choose p hp hf using h
  have hs : (∑ r, fire r + Ideal.ofBits .f32 841731191#32) = ((∑ r, p r + e : ℝ) : EReal) := by
    rw [hE, EReal.coe_add]
    congr 1
    simp only [hf]
    exact (sum_coe _ p).symm
  rw [hs]
  have hpos : 0 < ∑ r, p r + e := add_pos_of_nonneg_of_pos (Finset.sum_nonneg fun r _ => hp r) he
  simp only [Ideal.div_coe hpos.ne']
  rw [sum_over _ _ _ (one_div_pos.mpr hpos)]
  exact Finset.sum_congr rfl fun r _ => mul_right_comm _ _ _

end Cert.Scalar01

end
-- ==== Proof.Row.lean ====
module

public import proofs.«01_k».proof.Proof.Scalar

@[expose] public section

set_option maxRecDepth 16384

noncomputable section

namespace Cert.Row01

open Idealize.ShloMosaic

/-- One literal's membership value at an input: the logistic of the steepness times the signed distance to the threshold. -/
def memb (x : EReal) (s t β : ℝ) : EReal :=
  Ideal.div 1 (1 + Ideal.exp (-(((β : EReal) * (x - (t : EReal))) * (s : EReal))))

/-- A rule's firing strength on a row: the product of its six membership values. -/
def fire (xa : Fin 128 → EReal) (K : Fin 6 → Fin 128) (s t : Fin 6 → ℝ) (β : ℝ) : EReal :=
  memb (xa (K 0)) (s 0) (t 0) β * memb (xa (K 1)) (s 1) (t 1) β * memb (xa (K 2)) (s 2) (t 2) β
    * memb (xa (K 3)) (s 3) (t 3) β * memb (xa (K 4)) (s 4) (t 4) β * memb (xa (K 5)) (s 5) (t 5) β

/-- A row's features: the entries, their squares, the pairs' products and a one. -/
def feat (xa : Fin 128 → EReal) (A B : Fin 128 → Fin 128) (k : Fin 385) : EReal :=
  if h : k.val < 128 then xa ⟨k.val, h⟩
  else if h' : k.val - 128 < 128 then xa ⟨k.val - 128, h'⟩ * xa ⟨k.val - 128, h'⟩
  else if h'' : k.val - 128 - 128 < 128 then xa (A ⟨k.val - 128 - 128, h''⟩) * xa (B ⟨k.val - 128 - 128, h''⟩)
  else 1

/-- The mean of the rules' outputs weighted by their firing strengths, the small constant in its total. -/
def mean (f ro : Fin 1024 → EReal) : EReal :=
  Ideal.div (∑ r, f r * ro r) (∑ r, f r + Ideal.ofBits .f32 841731191#32)

/-- What both programs compute on a row. -/
def out (xa : Fin 128 → EReal) (K : Fin 1024 → Fin 6 → Fin 128) (s t : Fin 1024 → Fin 6 → ℝ) (β : Fin 1024 → ℝ)
    (A B : Fin 128 → Fin 128) (cp : Fin 1024 → Fin 385 → EReal) : EReal :=
  mean (fun r => fire xa (K r) (s r) (t r) (β r)) (fun r => ∑ k, feat xa A B k * cp r k)

/-- A literal's denominator is at least one. -/
theorem one_le (x : EReal) : 1 ≤ 1 + Ideal.exp x := le_add_of_nonneg_right (Scalar01.exp_nonneg x)

/-- A membership value is a real, not negative. -/
theorem memb_real (x : EReal) (s t β : ℝ) : ∃ p : ℝ, 0 ≤ p ∧ memb x s t β = (p : EReal) := by
  obtain ⟨p, hp, h, _⟩ := Scalar01.recip_real _ (one_le (-(((β : EReal) * (x - (t : EReal))) * (s : EReal))))
  exact ⟨p, hp, h⟩

/-- Products of nonnegative reals are nonnegative reals. -/
theorem mul_real {a b : EReal} (ha : ∃ p : ℝ, 0 ≤ p ∧ a = (p : EReal)) (hb : ∃ p : ℝ, 0 ≤ p ∧ b = (p : EReal)) :
    ∃ p : ℝ, 0 ≤ p ∧ a * b = (p : EReal) := by
  obtain ⟨p, hp, rfl⟩ := ha
  obtain ⟨q, hq, rfl⟩ := hb
  exact ⟨p * q, mul_nonneg hp hq, (EReal.coe_mul p q).symm⟩

/-- A firing strength is a real, not negative. -/
theorem fire_real (xa : Fin 128 → EReal) (K : Fin 6 → Fin 128) (s t : Fin 6 → ℝ) (β : ℝ) :
    ∃ p : ℝ, 0 ≤ p ∧ fire xa K s t β = (p : EReal) := by
  unfold fire
  exact mul_real (mul_real (mul_real (mul_real (mul_real (memb_real ..) (memb_real ..)) (memb_real ..)) (memb_real ..)) (memb_real ..)) (memb_real ..)

end Cert.Row01

end
-- ==== Proof.KernelRow.lean ====
module

public import proofs.«01_k».proof.Proof.KernelArray
public import proofs.«01_k».proof.Proof.Row

@[expose] public section

set_option maxRecDepth 16384

noncomputable section

namespace Cert.KernelIdeal.Row

open Cert.KernelIdeal Cert.KernelIdeal.Gen Cert.KernelIdeal.Scratch Cert.KernelIdeal.Array Cert.KernelIdeal.Plane Idealize.ShloMosaic Idealize.ShloMosaic.TcCoe

/-- What a parameter plane holds: for each literal its feature, sign, threshold and steepness, the pairs' features
    and the attention weights. -/
structure Holds (P : FVec Ideal S8x6144 .f32) (K : Fin 1024 → Fin 6 → Fin 128) (s t : Fin 1024 → Fin 6 → ℝ) (β : Fin 1024 → ℝ)
    (A B : Fin 128 → Fin 128) (att : Fin 128 → EReal) : Prop where
  sign : ∀ (r : Fin 1024) (l : Fin 6), P (ix2 (0 : Fin 8) ⟨l.val * 1024 + r.val, by omega⟩) = (s r l : EReal) * (β r : EReal)
  shift : ∀ (r : Fin 1024) (l : Fin 6), P (ix2 (1 : Fin 8) ⟨l.val * 1024 + r.val, by omega⟩) = (s r l : EReal) * (t r l : EReal) * (β r : EReal)
  feature : ∀ (r : Fin 1024) (l : Fin 6), P (ix2 (2 : Fin 8) ⟨l.val * 1024 + r.val, by omega⟩) = FloatOps.sitofp (F := Ideal) .f32 (BitVec.ofNat 32 (K r l).val)
  first : ∀ p : Fin 128, P (ix2 (3 : Fin 8) ⟨p.val, by omega⟩) = FloatOps.sitofp (F := Ideal) .f32 (BitVec.ofNat 32 (A p).val)
  second : ∀ p : Fin 128, P (ix2 (4 : Fin 8) ⟨p.val, by omega⟩) = FloatOps.sitofp (F := Ideal) .f32 (BitVec.ofNat 32 (B p).val)
  weight : ∀ f : Fin 128, P (ix2 (5 : Fin 8) ⟨f.val, by omega⟩) = att f

variable {P : FVec Ideal S8x6144 .f32} {K : Fin 1024 → Fin 6 → Fin 128} {s t : Fin 1024 → Fin 6 → ℝ} {β : Fin 1024 → ℝ}
  {A B : Fin 128 → Fin 128} {att : Fin 128 → EReal} (H : Holds P K s t β A B att) (x : FVec Ideal S2048x128 .f32) (b : Fin 2048)
include H

/-- The weighted input at a row. -/
theorem xa_row (f : Fin 128) : k0_pay5 (F := Ideal) x (attOf P) (ix2 b f) = x (ix2 b f) * att f := by
  rw [Pay.xa_apply, attOf]
  congr 1
  exact (ld_row P 5 128 (by decide) inb_S8x6144_S1x128_5_0 f).trans (H.weight f)

/-- The first product at a literal: the literal's feature, scaled. -/
theorem dot_lit (r : Fin 1024) (l : Fin 6) : k0_pay6 (F := Ideal) x (attOf P) (wsel P) (ix2 b ⟨l.val * 1024 + r.val, by omega⟩)
    = (x (ix2 b (K r l)) * att (K r l)) * (((s r l : EReal) * (β r : EReal)) * Pay.nlg) := by
  rw [Pay.dot_apply]
  have h : ∀ f : Fin 128, wsel P (ix2 f (⟨l.val * 1024 + r.val, by omega⟩ : Fin 6400)) = if f = K r l then ((s r l : EReal) * (β r : EReal)) * Pay.nlg else 0 := by
    intro f
    refine (wsel_lit P f ⟨l.val * 1024 + r.val, by omega⟩).trans ?_
    rw [colA, H.sign, H.feature, Scalar01.round_trip]
    exact Scalar01.hot_select f (K r l) _
  simp only [h, xa_row H]
  exact Scalar01.sum_hot (fun f => x (ix2 b f) * att f) (K r l) _

/-- The first product at a pair's first feature. -/
theorem dot_fst (p : Fin 128) : k0_pay6 (F := Ideal) x (attOf P) (wsel P) (ix2 b ⟨6144 + p.val, by omega⟩) = x (ix2 b (A p)) * att (A p) := by
  rw [Pay.dot_apply]
  have h : ∀ f : Fin 128, wsel P (ix2 f (⟨6144 + p.val, by omega⟩ : Fin 6400)) = if f = A p then (1 : EReal) else 0 := by
    intro f
    refine (wsel_fst P f p).trans ?_
    rw [colP, H.first, Scalar01.round_trip]
    exact Scalar01.hot_convert f (A p)
  simp only [h, xa_row H]
  exact (Scalar01.sum_hot (fun f => x (ix2 b f) * att f) (A p) 1).trans (mul_one _)

/-- The first product at a pair's second feature. -/
theorem dot_snd (p : Fin 128) : k0_pay6 (F := Ideal) x (attOf P) (wsel P) (ix2 b ⟨6272 + p.val, by omega⟩) = x (ix2 b (B p)) * att (B p) := by
  rw [Pay.dot_apply]
  have h : ∀ f : Fin 128, wsel P (ix2 f (⟨6272 + p.val, by omega⟩ : Fin 6400)) = if f = B p then (1 : EReal) else 0 := by
    intro f
    refine (wsel_snd P f p).trans ?_
    rw [colP, H.second, Scalar01.round_trip]
    exact Scalar01.hot_convert f (B p)
  simp only [h, xa_row H]
  exact (Scalar01.sum_hot (fun f => x (ix2 b f) * att f) (B p) 1).trans (mul_one _)

/-- One literal's denominator. -/
theorem den_row (r : Fin 1024) (l : Fin 6) : Pay.den x (attOf P) (shiftOf P) (wsel P) b r l
    = 1 + Ideal.exp (-(((β r : EReal) * (x (ix2 b (K r l)) * att (K r l) - (t r l : EReal))) * (s r l : EReal))) := by
  unfold Pay.den
  rw [dot_lit H]
  have hs : shiftOf P (ix2 (0 : Fin 1) ⟨l.val * 1024 + r.val, by omega⟩) = (s r l : EReal) * (t r l : EReal) * (β r : EReal) :=
    (ld_row P 1 6144 (by decide) inb_S8x6144_S1x6144_1_0 ⟨l.val * 1024 + r.val, by omega⟩).trans (H.shift r l)
  rw [hs]
  congr 1
  exact Scalar01.exponent _ (s r l) (t r l) (β r)

/-- A rule's firing strength. -/
theorem fire_row (r : Fin 1024) : k0_pay7 (F := Ideal) x (attOf P) (shiftOf P) (wsel P) (ix2 b r)
    = Row01.fire (fun f => x (ix2 b f) * att f) (K r) (s r) (t r) (β r) := by
  rw [Pay.fire_apply]
  rw [Scalar01.recip_prod (fun l => Pay.den x (attOf P) (shiftOf P) (wsel P) b r l) fun l => by
    rw [den_row H]; exact Row01.one_le _]
  simp only [den_row H]
  rfl

/-- A feature; behind the 385 of them the conclusion weights are zero. -/
theorem feat_row (k : Fin 385) : k0_pay8 (F := Ideal) x (attOf P) (wsel P) (ix2 b ⟨k.val, by omega⟩)
    = Row01.feat (fun f => x (ix2 b f) * att f) A B k := by
  rw [Pay.poly_apply]
  unfold Row01.feat
  have hk := k.isLt
  by_cases h : k.val < 128
  · rw [dif_pos h, dif_pos h, xa_row H]
  by_cases h' : k.val - 128 < 128
  · rw [dif_neg h, dif_neg h, dif_pos h', dif_pos h', xa_row H]
  by_cases h'' : k.val - 128 - 128 < 128
  · rw [dif_neg h, dif_neg h, dif_neg h', dif_neg h', dif_pos h'', dif_pos h'']
    exact congrArg₂ (· * ·) (dot_fst H x b ⟨k.val - 128 - 128, h''⟩) (dot_snd H x b ⟨k.val - 128 - 128, h''⟩)
  · rw [dif_neg h, dif_neg h, dif_neg h', dif_neg h', dif_neg h'', dif_neg h'']
    rw [show k.val - 128 - 128 - 128 = 0 by omega]
    exact (Scalar01.hot_convert 0 0).trans (if_pos rfl)

/-- A rule's output: the sum over the 512 padded features is the sum over the 385. -/
theorem ro_row (cp : FVec Ideal S1024x385 .f32) (r : Fin 1024) :
    (∑ k : Fin 512, k0_pay8 (F := Ideal) x (attOf P) (wsel P) (ix2 b k) * cpT cp (ix2 r k))
      = ∑ k : Fin 385, Row01.feat (fun f => x (ix2 b f) * att f) A B k * cp (ix2 r k) := by
  refine (Fin.sum_univ_add (a := 385) (b := 127) (fun k => k0_pay8 (F := Ideal) x (attOf P) (wsel P) (ix2 b (k : Fin 512)) * cpT cp (ix2 r (k : Fin 512)))).trans ?_
  have h0 : ∀ k : Fin 127, k0_pay8 (F := Ideal) x (attOf P) (wsel P) (ix2 b (Fin.natAdd 385 k : Fin 512)) * cpT cp (ix2 r (Fin.natAdd 385 k : Fin 512)) = 0 := by
    intro k
    rw [cpT_apply, dif_neg (by simp [Fin.natAdd]), mul_zero]
  rw [Finset.sum_eq_zero fun k _ => h0 k, add_zero]
  refine Finset.sum_congr rfl fun k _ => ?_
  refine congrArg₂ (· * ·) (feat_row H x b k) ?_
  refine (cpT_apply cp r (Fin.castAdd 127 k)).trans ?_
  rw [dif_pos (show (Fin.castAdd 127 k).val < 385 from k.isLt)]
  rfl

/-- A block's row is the row both programs compute. -/
theorem block_row (cp : FVec Ideal S1024x385 .f32) : blockT x P (cpT cp) (ix2 b (0 : Fin 1))
    = Row01.out (fun f => x (ix2 b f) * att f) K s t β A B (fun r k => cp (ix2 r k)) := by
  unfold blockT Row01.out Row01.mean
  rw [Pay.out_apply]
  simp only [fire_row H, ro_row H]

end Cert.KernelIdeal.Row

end
-- ==== Proof.RefTerm.lean ====
/- The reference's result, cut into named pieces over typed variables: the weighted input, the lookups of a column, the
   membership values, the firing strengths, the polynomial features and the weighted mean. -/
module

public import proofs.«01_k».proof.Proof.Gen.ReferenceIdeal.Run
public import Idealize.ShloMosaic.PureOps.Ideal

@[expose] public section

set_option maxRecDepth 16384

noncomputable section

namespace Cert.ReferenceIdeal.Term

open Cert.ReferenceIdeal Cert.ReferenceIdeal.Gen Idealize.ShloMosaic Idealize.ShloMosaic.TcCoe

/-- The input times the attention weights, row by row. -/
def xaT (X : FVec Ideal S4096x128 .f32) (att : FVec Ideal S128 .f32) : FVec Ideal S4096x128 .f32 :=
  mulf X (broadcastInDim S4096x128 ![0, 1] bcast_S1x128_S4096x128_0_1 (broadcastInDim S1x128 ![1] bcast_S128_S1x128_1 att))

/-- The rules' feature numbers as the lookup takes them: a negative one counted from the end, under a unit axis. -/
def numT (idx : IVec S1024x6 32) : IVec S1024x6x1 32 :=
  broadcastInDim S1024x6x1 ![0, 1] bcast_S1024x6_S1024x6x1_0_1 (select (cmpi .slt idx (broadcastInDim S1024x6 ![] bcast_S_S1024x6 (constantI S_ 32 0#32))) (addi idx (broadcastInDim S1024x6 ![] bcast_S_S1024x6 (constantI S_ 32 128#32))) idx)

/-- Which of the rules' feature numbers name a column. -/
def okT (idx : IVec S1024x6 32) : IVec S1024x6 1 :=
  Host.reduce IntOp.andi (andi (cmpi .sge (numT idx) (broadcastInDim S1024x6x1 ![] bcast_S_S1024x6x1 (constantI S_ 32 0#32))) (cmpi .sle (numT idx) (broadcastInDim S1024x6x1 ![0, 1, 2] bcast_S1x1x1_S1024x6x1_0_1_2 (broadcastInDim S1x1x1 ![2] bcast_S1_S1x1x1_2 (constantI S1 32 127#32))))) (constantI S_ 1 1#1) reducesTo_S1024x6x1_S1024x6_d2 h_S_

/-- The weighted input's columns that the rules look up. -/
def selT (xa : FVec Ideal S4096x128 .f32) (idx : IVec S1024x6 32) : FVec Ideal S4096x1024x6 .f32 :=
  select (broadcastInDim S4096x1024x6 ![1, 2] bcast_S1024x6_S4096x1024x6_1_2 (okT idx)) (Host.gather gather_S4096x128_S1024x6x1_S4096x1024x6_0_1_n_n_1_2_40961 xa (numT idx)) (broadcastInDim S4096x1024x6 ![] bcast_S_S4096x1024x6 (constant S_ .f32 0x7FC00000#32))

/-- The masked membership values from the looked-up columns. -/
def mfT (sel : FVec Ideal S4096x1024x6 .f32) (thr sgn mask : FVec Ideal S1024x6 .f32) (beta : FVec Ideal S1024 .f32) : FVec Ideal S4096x1024x6 .f32 :=
  addf (mulf (Host.divf (broadcastInDim S4096x1024x6 ![] bcast_S_S4096x1024x6 (constant S_ .f32 0x3F800000#32)) (addf (broadcastInDim S4096x1024x6 ![] bcast_S_S4096x1024x6 (constant S_ .f32 0x3F800000#32)) (Host.exp (Host.negf (mulf (mulf (broadcastInDim S4096x1024x6 ![0, 1, 2] bcast_S1x1024x1_S4096x1024x6_0_1_2 (shapeCast _ beta shapeCasts_S1024_S1x1024x1)) (subf sel (broadcastInDim S4096x1024x6 ![0, 1, 2] bcast_S1x1024x6_S4096x1024x6_0_1_2 (broadcastInDim S1x1024x6 ![1, 2] bcast_S1024x6_S1x1024x6_1_2 thr)))) (broadcastInDim S4096x1024x6 ![0, 1, 2] bcast_S1x1024x6_S4096x1024x6_0_1_2 (broadcastInDim S1x1024x6 ![1, 2] bcast_S1024x6_S1x1024x6_1_2 sgn))))))) (broadcastInDim S4096x1024x6 ![0, 1, 2] bcast_S1x1024x6_S4096x1024x6_0_1_2 (broadcastInDim S1x1024x6 ![1, 2] bcast_S1024x6_S1x1024x6_1_2 mask))) (broadcastInDim S4096x1024x6 ![0, 1, 2] bcast_S1x1024x6_S4096x1024x6_0_1_2 (subf (broadcastInDim S1x1024x6 ![] bcast_S_S1x1024x6 (constant S_ .f32 0x3F800000#32)) (broadcastInDim S1x1024x6 ![1, 2] bcast_S1024x6_S1x1024x6_1_2 mask)))

/-- The firing strengths: the product of a rule's six membership values. -/
def fireT (mf : FVec Ideal S4096x1024x6 .f32) : FVec Ideal S4096x1024 .f32 :=
  mulf (mulf (mulf (mulf (mulf (shapeCast _ (extractStridedSlice S4096x1024x1 ![0, 0, 0] mf slices_S4096x1024x6_S4096x1024x1_0_0_0) shapeCasts_S4096x1024x1_S4096x1024) (shapeCast _ (extractStridedSlice S4096x1024x1 ![0, 0, 1] mf slices_S4096x1024x6_S4096x1024x1_0_0_1) shapeCasts_S4096x1024x1_S4096x1024)) (shapeCast _ (extractStridedSlice S4096x1024x1 ![0, 0, 2] mf slices_S4096x1024x6_S4096x1024x1_0_0_2) shapeCasts_S4096x1024x1_S4096x1024)) (shapeCast _ (extractStridedSlice S4096x1024x1 ![0, 0, 3] mf slices_S4096x1024x6_S4096x1024x1_0_0_3) shapeCasts_S4096x1024x1_S4096x1024)) (shapeCast _ (extractStridedSlice S4096x1024x1 ![0, 0, 4] mf slices_S4096x1024x6_S4096x1024x1_0_0_4) shapeCasts_S4096x1024x1_S4096x1024)) (shapeCast _ (extractStridedSlice S4096x1024x1 ![0, 0, 5] mf slices_S4096x1024x6_S4096x1024x1_0_0_5) shapeCasts_S4096x1024x1_S4096x1024)

/-- A vector of feature numbers as the lookup takes them. -/
def numP (v : IVec S128 32) : IVec S128x1 32 :=
  broadcastInDim S128x1 ![0] bcast_S128_S128x1_0 (select (cmpi .slt v (broadcastInDim S128 ![] bcast_S_S128 (constantI S_ 32 0#32))) (addi v (broadcastInDim S128 ![] bcast_S_S128 (constantI S_ 32 128#32))) v)

/-- Which numbers of the vector name a column. -/
def okP (v : IVec S128 32) : IVec S128 1 :=
  Host.reduce IntOp.andi (andi (cmpi .sge (numP v) (broadcastInDim S128x1 ![] bcast_S_S128x1 (constantI S_ 32 0#32))) (cmpi .sle (numP v) (broadcastInDim S128x1 ![0, 1] bcast_S1x1_S128x1_0_1 (broadcastInDim S1x1 ![1] bcast_S1_S1x1_1 (constantI S1 32 127#32))))) (constantI S_ 1 1#1) reducesTo_S128x1_S128_d1 h_S_

/-- The weighted input's columns that a vector of numbers looks up. -/
def selP (xa : FVec Ideal S4096x128 .f32) (v : IVec S128 32) : FVec Ideal S4096x128 .f32 :=
  select (broadcastInDim S4096x128 ![1] bcast_S128_S4096x128_1 (okP v)) (Host.gather gather_S4096x128_S128x1_S4096x128_0_1_n_n_1_1_40961 xa (numP v)) (broadcastInDim S4096x128 ![] bcast_S_S4096x128 (constant S_ .f32 0x7FC00000#32))

/-- The interacting pairs' first features, and their second. -/
def fstP (pairs : IVec S128x2 32) : IVec S128 32 :=
  shapeCast _ (extractStridedSlice S128x1 ![0, 0] pairs slices_S128x2_S128x1_0_0) shapeCasts_S128x1_S128
def sndP (pairs : IVec S128x2 32) : IVec S128 32 :=
  shapeCast _ (extractStridedSlice S128x1 ![0, 1] pairs slices_S128x2_S128x1_0_1) shapeCasts_S128x1_S128

/-- The polynomial features: the weighted input, its squares, the interactions and a one. -/
def polyT (xa s1 s2 : FVec Ideal S4096x128 .f32) : FVec Ideal S4096x385 .f32 :=
  concatenate S4096x385 1 [⟨S4096x128, xa⟩, ⟨S4096x128, mulf xa xa⟩, ⟨S4096x128, mulf s1 s2⟩, ⟨S4096x1, broadcastInDim S4096x1 ![] bcast_S_S4096x1 (constant S_ .f32 0x3F800000#32)⟩] concatenates_S4096x128_S4096x128_S4096x128_S4096x1_S4096x385_d1

/-- The rules' linear outputs. -/
def roT (poly : FVec Ideal S4096x385 .f32) (cp : FVec Ideal S1024x385 .f32) : FVec Ideal S4096x1024 .f32 :=
  Host.dotGeneral dot_S4096x385_S385x1024_S4096x1024_1_0_0_1_n_n none poly (transpose S385x1024 [1, 0] cp transposes_S1024x385_S385x1024_1_0)

/-- The mean of the rules' outputs, weighted by the normalized firing strengths. -/
def meanT (fire ro : FVec Ideal S4096x1024 .f32) : FVec Ideal S4096x1 .f32 :=
  broadcastInDim S4096x1 ![0] bcast_S4096_S4096x1_0 (Host.reduceAdd (mulf (Host.divf fire (broadcastInDim S4096x1024 ![0, 1] bcast_S4096x1_S4096x1024_0_1 (addf (broadcastInDim S4096x1 ![0] bcast_S4096_S4096x1_0 (Host.reduceAdd fire (constant S_ .f32 0x00000000#32) reducesTo_S4096x1024_S4096_d1 h_S_)) (broadcastInDim S4096x1 ![] bcast_S_S4096x1 (constant S_ .f32 0x322BCC77#32))))) ro) (constant S_ .f32 0x00000000#32) reducesTo_S4096x1024_S4096_d1 h_S_)

/-- The reference's function of its nine arguments. -/
def refT (X : FVec Ideal S4096x128 .f32) (idx : IVec S1024x6 32) (thr sgn mask : FVec Ideal S1024x6 .f32) (beta : FVec Ideal S1024 .f32)
    (cp : FVec Ideal S1024x385 .f32) (att : FVec Ideal S128 .f32) (pairs : IVec S128x2 32) : FVec Ideal S4096x1 .f32 :=
  meanT (fireT (mfT (selT (xaT X att) idx) thr sgn mask beta))
    (roT (polyT (xaT X att) (selP (xaT X att) (fstP pairs)) (selP (xaT X att) (sndP pairs))) cp)

/-- What the reference leaves in its result buffer is that function of its arguments. -/
theorem res_eq (m : (ℓ : Loc nD τ sig) → Buf (Elt Ideal) ℓ) (c : Dev nD) :
    Value.res_out0 m c = refT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

end Cert.ReferenceIdeal.Term

end
-- ==== Proof.RefGather.lean ====
/- The reference's two lookups of columns, read at an index. -/
module

public import proofs.«01_k».proof.Proof.RefTerm
public import Idealize.ShloMosaic.Lib.Pointwise

@[expose] public section

set_option maxRecDepth 16384

noncomputable section

namespace Cert.ReferenceIdeal.Term

open Cert.ReferenceIdeal Cert.ReferenceIdeal.Gen Idealize.ShloMosaic Idealize.ShloMosaic.TcCoe

/-- The word of a number below 128, read signed and clamped to the columns, is that number. -/
theorem clamp_word (k : Fin 128) : min (BitVec.ofNat 32 k.val).toInt.toNat 127 = k.val := by
  revert k; decide +kernel

/-- The rules' lookup: where the number at rule `r`, place `l` is the word of `k`, the entry is the operand's in column `k`. -/
theorem gather6_apply (x : FVec Ideal S4096x128 .f32) (num : IVec S1024x6x1 32) (b : Fin 4096) (r : Fin 1024) (l : Fin 6) (k : Fin 128)
    (h : num (ix3 r l (0 : Fin 1)) = BitVec.ofNat 32 k.val) :
    Host.gather gather_S4096x128_S1024x6x1_S4096x1024x6_0_1_n_n_1_2_40961 x num (ix3 b r l) = x (ix2 b k) := by
  unfold Host.gather
  refine congrArg x (funext fun a => Fin.ext ?_)
  show gather_S4096x128_S1024x6x1_S4096x1024x6_0_1_n_n_1_2_40961.start (ix3 b r l) num a
      + gather_S4096x128_S1024x6x1_S4096x1024x6_0_1_n_n_1_2_40961.batchCoord (ix3 b r l) a
      + gather_S4096x128_S1024x6x1_S4096x1024x6_0_1_n_n_1_2_40961.offCoord (ix3 b r l) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show ¬ (0 : Fin 2) ∈ gather_S4096x128_S1024x6x1_S4096x1024x6_0_1_n_n_1_2_40961.startIndexMap by decide)]
    rw [Nat.add_zero, Nat.zero_add]
    rfl
  · rw [GatherDims.offCoord_eq_zero _ _ _ (fun h => ((GatherDims.mem_sKept _ _).mp h).1 (List.mem_singleton.mpr rfl))]
    unfold GatherDims.start
    rw [dif_pos (show (1 : Fin 2) ∈ gather_S4096x128_S1024x6x1_S4096x1024x6_0_1_n_n_1_2_40961.startIndexMap by decide)]
    have hsi : gather_S4096x128_S1024x6x1_S4096x1024x6_0_1_n_n_1_2_40961.siIdx (ix3 b r l)
        ⟨List.idxOf (1 : Fin 2) gather_S4096x128_S1024x6x1_S4096x1024x6_0_1_n_n_1_2_40961.startIndexMap,
          List.idxOf_lt_length_iff.2 (List.mem_singleton.mpr rfl)⟩ = ix3 r l (0 : Fin 1) := by
      funext b'; refine Fin.ext ?_
      match b' with
      | ⟨0, _⟩ => rfl
      | ⟨1, _⟩ => rfl
      | ⟨2, _⟩ => rfl
    show min (num (gather_S4096x128_S1024x6x1_S4096x1024x6_0_1_n_n_1_2_40961.siIdx (ix3 b r l)
        ⟨List.idxOf (1 : Fin 2) gather_S4096x128_S1024x6x1_S4096x1024x6_0_1_n_n_1_2_40961.startIndexMap,
          List.idxOf_lt_length_iff.2 (List.mem_singleton.mpr rfl)⟩)).toInt.toNat 127 + 0 + 0 = k.val
    rw [hsi, h, clamp_word]
    rfl

/-- The pairs' lookup: where the number at place `p` is the word of `k`, the entry is the operand's in column `k`. -/
theorem gatherP_apply (x : FVec Ideal S4096x128 .f32) (num : IVec S128x1 32) (b : Fin 4096) (p k : Fin 128)
    (h : num (ix2 p (0 : Fin 1)) = BitVec.ofNat 32 k.val) :
    Host.gather gather_S4096x128_S128x1_S4096x128_0_1_n_n_1_1_40961 x num (ix2 b p) = x (ix2 b k) := by
  unfold Host.gather
  refine congrArg x (funext fun a => Fin.ext ?_)
  show gather_S4096x128_S128x1_S4096x128_0_1_n_n_1_1_40961.start (ix2 b p) num a
      + gather_S4096x128_S128x1_S4096x128_0_1_n_n_1_1_40961.batchCoord (ix2 b p) a
      + gather_S4096x128_S128x1_S4096x128_0_1_n_n_1_1_40961.offCoord (ix2 b p) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show ¬ (0 : Fin 2) ∈ gather_S4096x128_S128x1_S4096x128_0_1_n_n_1_1_40961.startIndexMap by decide)]
    rw [Nat.add_zero, Nat.zero_add]
    rfl
  · rw [GatherDims.offCoord_eq_zero _ _ _ (fun h => ((GatherDims.mem_sKept _ _).mp h).1 (List.mem_singleton.mpr rfl))]
    unfold GatherDims.start
    rw [dif_pos (show (1 : Fin 2) ∈ gather_S4096x128_S128x1_S4096x128_0_1_n_n_1_1_40961.startIndexMap by decide)]
    have hsi : gather_S4096x128_S128x1_S4096x128_0_1_n_n_1_1_40961.siIdx (ix2 b p)
        ⟨List.idxOf (1 : Fin 2) gather_S4096x128_S128x1_S4096x128_0_1_n_n_1_1_40961.startIndexMap,
          List.idxOf_lt_length_iff.2 (List.mem_singleton.mpr rfl)⟩ = ix2 p (0 : Fin 1) := by
      funext b'; refine Fin.ext ?_
      match b' with
      | ⟨0, _⟩ => rfl
      | ⟨1, _⟩ => rfl
    show min (num (gather_S4096x128_S128x1_S4096x128_0_1_n_n_1_1_40961.siIdx (ix2 b p)
        ⟨List.idxOf (1 : Fin 2) gather_S4096x128_S128x1_S4096x128_0_1_n_n_1_1_40961.startIndexMap,
          List.idxOf_lt_length_iff.2 (List.mem_singleton.mpr rfl)⟩)).toInt.toNat 127 + 0 + 0 = k.val
    rw [hsi, h, clamp_word]
    rfl

end Cert.ReferenceIdeal.Term

end
-- ==== Proof.RefRow.lean ====
module

public import proofs.«01_k».proof.Proof.RefTerm
public import proofs.«01_k».proof.Proof.RefGather
public import proofs.«01_k».proof.Proof.Row
public import Idealize.ShloMosaic.Lib.ReduceAll
public import Idealize.ShloMosaic.Lib.Pointwise
public import Idealize.ShloMosaic.Lib.IdealHost

@[expose] public section

set_option maxRecDepth 16384

noncomputable section

namespace Cert.ReferenceIdeal.Row

open Cert.ReferenceIdeal Cert.ReferenceIdeal.Gen Cert.ReferenceIdeal.Term Idealize.ShloMosaic Idealize.ShloMosaic.TcCoe

/-- A feature number is never counted from the end. -/
theorem wrap : ∀ k : Fin 128, Scalar.select (IntOp.cmpi .slt (BitVec.ofNat 32 k.val) 0#32) (IntOp.addi (BitVec.ofNat 32 k.val) 128#32) (BitVec.ofNat 32 k.val)
    = BitVec.ofNat 32 k.val := by
  decide +kernel

/-- A feature number names a column. -/
theorem inside : ∀ k : Fin 128, IntOp.andi (IntOp.cmpi .sge (BitVec.ofNat 32 k.val) 0#32) (IntOp.cmpi .sle (BitVec.ofNat 32 k.val) 127#32) = 1#1 := by
  decide +kernel

section lookup
variable (xa : FVec Ideal S4096x128 .f32)

/-- The literals' numbers as the lookup takes them. -/
theorem num_apply (idx : IVec S1024x6 32) (r : Fin 1024) (l : Fin 6) (x : Fin 1) (k : Fin 128) (h : idx (ix2 r l) = BitVec.ofNat 32 k.val) :
    numT idx (ix3 r l x) = BitVec.ofNat 32 k.val := by
  have e : numT idx (ix3 r l x) = Scalar.select (IntOp.cmpi .slt (idx (ix2 r l)) 0#32) (IntOp.addi (idx (ix2 r l)) 128#32) (idx (ix2 r l)) := by
    pointwise [numT]
  rw [e, h, wrap]

/-- The literals' lookups are all inside. -/
theorem ok_apply (idx : IVec S1024x6 32) (r : Fin 1024) (l : Fin 6) (k : Fin 128) (h : idx (ix2 r l) = BitVec.ofNat 32 k.val) :
    okT idx (ix2 r l) = 1#1 := by
  have e : okT idx (ix2 r l) = Finset.fold IntOp.andi 1#1 (fun x : Fin 1 => IntOp.andi (IntOp.cmpi .sge (numT idx (ix3 r l x)) 0#32) (IntOp.cmpi .sle (numT idx (ix3 r l x)) 127#32)) Finset.univ := by
    pointwise [okT]
  rw [e]
  simp only [num_apply idx r l _ k h, inside]
  rfl

/-- The literals' looked-up columns. -/
theorem sel_apply (idx : IVec S1024x6 32) (b : Fin 4096) (r : Fin 1024) (l : Fin 6) (k : Fin 128) (h : idx (ix2 r l) = BitVec.ofNat 32 k.val) :
    selT xa idx (ix3 b r l) = xa (ix2 b k) := by
  have e : ∀ w : FVec Ideal S4096x1024x6 .f32, ∀ o : IVec S1024x6 1, ∀ n : FVec Ideal S4096x1024x6 .f32,
      select (broadcastInDim S4096x1024x6 ![1, 2] bcast_S1024x6_S4096x1024x6_1_2 o) w n (ix3 b r l) = Scalar.select (o (ix2 r l)) (w (ix3 b r l)) (n (ix3 b r l)) := by
    intro w o n
    pointwise
  unfold selT
  rw [e, ok_apply idx r l k h]
  show (if (1#1 : BitVec 1) = 1 then _ else _) = _
  rw [if_pos (show (1#1 : BitVec 1) = 1 from rfl)]
  exact gather6_apply xa (numT idx) b r l k (num_apply idx r l 0 k h)

/-- The pairs' numbers as the lookup takes them. -/
theorem numP_apply (v : IVec S128 32) (p : Fin 128) (x : Fin 1) (k : Fin 128) (h : v (ix1 p) = BitVec.ofNat 32 k.val) :
    numP v (ix2 p x) = BitVec.ofNat 32 k.val := by
  have e : numP v (ix2 p x) = Scalar.select (IntOp.cmpi .slt (v (ix1 p)) 0#32) (IntOp.addi (v (ix1 p)) 128#32) (v (ix1 p)) := by
    pointwise [numP]
  rw [e, h, wrap]

/-- The pairs' lookups are all inside. -/
theorem okP_apply (v : IVec S128 32) (p : Fin 128) (k : Fin 128) (h : v (ix1 p) = BitVec.ofNat 32 k.val) :
    okP v (ix1 p) = 1#1 := by
  have e : okP v (ix1 p) = Finset.fold IntOp.andi 1#1 (fun x : Fin 1 => IntOp.andi (IntOp.cmpi .sge (numP v (ix2 p x)) 0#32) (IntOp.cmpi .sle (numP v (ix2 p x)) 127#32)) Finset.univ := by
    pointwise [okP]
  rw [e]
  simp only [numP_apply v p _ k h, inside]
  rfl

/-- The pairs' looked-up columns. -/
theorem selP_apply (v : IVec S128 32) (b : Fin 4096) (p : Fin 128) (k : Fin 128) (h : v (ix1 p) = BitVec.ofNat 32 k.val) :
    selP xa v (ix2 b p) = xa (ix2 b k) := by
  have e : ∀ w : FVec Ideal S4096x128 .f32, ∀ o : IVec S128 1, ∀ n : FVec Ideal S4096x128 .f32,
      select (broadcastInDim S4096x128 ![1] bcast_S128_S4096x128_1 o) w n (ix2 b p) = Scalar.select (o (ix1 p)) (w (ix2 b p)) (n (ix2 b p)) := by
    intro w o n
    pointwise
  unfold selP
  rw [e, okP_apply v p k h]
  show (if (1#1 : BitVec 1) = 1 then _ else _) = _
  rw [if_pos (show (1#1 : BitVec 1) = 1 from rfl)]
  exact gatherP_apply xa (numP v) b p k (numP_apply v p 0 k h)

end lookup

/-- A masked membership value, the mask one. -/
theorem mf_apply (sel : FVec Ideal S4096x1024x6 .f32) (thr sgn mask : FVec Ideal S1024x6 .f32) (beta : FVec Ideal S1024 .f32)
    (b : Fin 4096) (r : Fin 1024) (l : Fin 6) (s t β : ℝ) (x : EReal) (hx : sel (ix3 b r l) = x) (hm : mask (ix2 r l) = (1 : EReal)) (hs : sgn (ix2 r l) = (s : EReal))
    (ht : thr (ix2 r l) = (t : EReal)) (hb : beta (ix1 r) = (β : EReal)) : mfT sel thr sgn mask beta (ix3 b r l) = Row01.memb x s t β := by
  have e : mfT sel thr sgn mask beta (ix3 b r l)
      = Ideal.div 1 (1 + Ideal.exp (-(beta (ix1 r) * (sel (ix3 b r l) - thr (ix2 r l)) * sgn (ix2 r l)))) * mask (ix2 r l) + (1 - mask (ix2 r l)) := by
    pointwise [mfT]
  rw [e, hx, hm, hs, ht, hb, Scalar01.masked]
  rfl

/-- The firing strengths at a row. -/
theorem fire_apply (mf : FVec Ideal S4096x1024x6 .f32) (b : Fin 4096) (r : Fin 1024) : fireT mf (ix2 b r)
    = mf (ix3 b r 0) * mf (ix3 b r 1) * mf (ix3 b r 2) * mf (ix3 b r 3) * mf (ix3 b r 4) * mf (ix3 b r 5) := by
  pointwise [fireT]

/-- The features at a row. -/
theorem poly_apply (xa s1 s2 : FVec Ideal S4096x128 .f32) (b : Fin 4096) (x : Fin 128 → EReal) (A B : Fin 128 → Fin 128)
    (hx : ∀ f, xa (ix2 b f) = x f) (h1 : ∀ p, s1 (ix2 b p) = x (A p)) (h2 : ∀ p, s2 (ix2 b p) = x (B p)) (k : Fin 385) :
    polyT xa s1 s2 (ix2 b k) = Row01.feat x A B k := by
  simp only [Row01.feat, ← h1, ← h2, ← hx]
  pointwise [polyT]

/-- The rules' outputs at a row. -/
theorem ro_apply (poly : FVec Ideal S4096x385 .f32) (cp : FVec Ideal S1024x385 .f32) (b : Fin 4096) (r : Fin 1024) :
    roT poly cp (ix2 b r) = ∑ k : Fin 385, poly (ix2 b k) * cp (ix2 r k) := by
  pointwise [roT]

/-- The weighted mean at a row. -/
theorem mean_apply (fire ro : FVec Ideal S4096x1024 .f32) (b : Fin 4096) : meanT fire ro (ix2 b (0 : Fin 1))
    = ∑ r : Fin 1024, Ideal.div (fire (ix2 b r)) (∑ r : Fin 1024, fire (ix2 b r) + Ideal.ofBits .f32 841731191#32) * ro (ix2 b r) := by
  pointwise [meanT]

/-- The weighted input at a row. -/
theorem xa_apply (X : FVec Ideal S4096x128 .f32) (att : FVec Ideal S128 .f32) (b : Fin 4096) (f : Fin 128) :
    xaT X att (ix2 b f) = X (ix2 b f) * att (ix1 f) := by
  pointwise [xaT]

/-- The pairs' first numbers. -/
theorem fst_apply (pairs : IVec S128x2 32) (p : Fin 128) : fstP pairs (ix1 p) = pairs (ix2 p (0 : Fin 2)) := by
  pointwise [fstP]

/-- The pairs' second numbers. -/
theorem snd_apply (pairs : IVec S128x2 32) (p : Fin 128) : sndP pairs (ix1 p) = pairs (ix2 p (1 : Fin 2)) := by
  pointwise [sndP]

/-- The reference's result at a row, on the domain. -/
theorem ref_row (X : FVec Ideal S4096x128 .f32) (idx : IVec S1024x6 32) (thr sgn mask : FVec Ideal S1024x6 .f32) (beta : FVec Ideal S1024 .f32)
    (cp : FVec Ideal S1024x385 .f32) (att : FVec Ideal S128 .f32) (pairs : IVec S128x2 32)
    (K : Fin 1024 → Fin 6 → Fin 128) (s t : Fin 1024 → Fin 6 → ℝ) (β : Fin 1024 → ℝ) (A B : Fin 128 → Fin 128)
    (hK : ∀ r l, idx (ix2 r l) = BitVec.ofNat 32 (K r l).val) (hA : ∀ p, pairs (ix2 p (0 : Fin 2)) = BitVec.ofNat 32 (A p).val)
    (hB : ∀ p, pairs (ix2 p (1 : Fin 2)) = BitVec.ofNat 32 (B p).val) (hm : ∀ r l, mask (ix2 r l) = (1 : EReal))
    (hs : ∀ r l, sgn (ix2 r l) = (s r l : EReal)) (ht : ∀ r l, thr (ix2 r l) = (t r l : EReal)) (hb : ∀ r, beta (ix1 r) = (β r : EReal))
    (b : Fin 4096) :
    refT X idx thr sgn mask beta cp att pairs (ix2 b (0 : Fin 1))
      = Row01.out (fun f => X (ix2 b f) * att (ix1 f)) K s t β A B (fun r k => cp (ix2 r k)) := by
  unfold refT Row01.out
  rw [mean_apply]
  have hf : ∀ r, fireT (mfT (selT (xaT X att) idx) thr sgn mask beta) (ix2 b r) = Row01.fire (fun f => X (ix2 b f) * att (ix1 f)) (K r) (s r) (t r) (β r) := by
    intro r
    rw [fire_apply]
    have h : ∀ l, mfT (selT (xaT X att) idx) thr sgn mask beta (ix3 b r l) = Row01.memb (X (ix2 b (K r l)) * att (ix1 (K r l))) (s r l) (t r l) (β r) := fun l =>
      mf_apply _ thr sgn mask beta b r l _ _ _ _ ((sel_apply _ idx b r l (K r l) (hK r l)).trans (xa_apply X att b (K r l))) (hm r l) (hs r l) (ht r l) (hb r)
    simp only [h]
    rfl
  have hr : ∀ r, roT (polyT (xaT X att) (selP (xaT X att) (fstP pairs)) (selP (xaT X att) (sndP pairs))) cp (ix2 b r)
      = ∑ k, Row01.feat (fun f => X (ix2 b f) * att (ix1 f)) A B k * cp (ix2 r k) := by
    intro r
    rw [ro_apply]
    refine Finset.sum_congr rfl fun k _ => ?_
    rw [poly_apply _ _ _ b (fun f => X (ix2 b f) * att (ix1 f)) A B (fun f => xa_apply X att b f)
      (fun p => (selP_apply _ _ b p (A p) ((fst_apply pairs p).trans (hA p))).trans (xa_apply X att b (A p)))
      (fun p => (selP_apply _ _ b p (B p) ((snd_apply pairs p).trans (hB p))).trans (xa_apply X att b (B p)))]
  simp only [hf, hr]
  exact Scalar01.mean _ _ fun r => Row01.fire_real _ _ _ _ _

end Cert.ReferenceIdeal.Row

end
-- ==== Proof.Domain.lean ====
module

public import proofs.«01_k».proof.Pre_in_domain
public import Idealize.ShloMosaic.Lib.Pointwise
public import Idealize.ShloMosaic.Lib.IdealHost
public import Idealize.ShloMosaic.Lib.ReduceAll
public import Idealize.ShloMosaic.Lib.WordCmp

@[expose] public section

set_option maxRecDepth 16384

noncomputable section

namespace Cert.Domain01

open Idealize.ShloMosaic Cert.Pre_in_domain

variable [Facts]

instance : Subsingleton S_.Idx := ⟨fun a b => funext fun i => i.elim0⟩

/-- A word that is at least nothing and below 128 is one of the 128 feature numbers. -/
theorem number (x : BitVec 32) (h : IntOp.andi (IntOp.cmpi .sge x 0#32) (IntOp.cmpi .slt x 128#32) = 1#1) :
    ∃ k : Fin 128, x = BitVec.ofNat 32 k.val := by
  have hx : x.toNat < 128 := by
    have e := WordCmp.andi_sge_zero_slt_ofNat (w := 32) (k := 128) (by norm_num) x
    rw [show (BitVec.ofNat 32 128) = 128#32 from rfl, h] at e
    by_contra hc
    simp [hc] at e
  exact ⟨⟨x.toNat, hx⟩, by simp⟩

/-- A number whose absolute value is below infinity is a real. -/
theorem finite (x : EReal) (h : Ideal.cmp .olt (max x (-x)) (Ideal.ofBits .f32 0x7F800000#32) = 1#1) : ∃ r : ℝ, x = (r : EReal) := by
  have hi : Ideal.ofBits .f32 0x7F800000#32 = ⊤ := by simp [Ideal.ofBits, Ideal.ieee]
  rw [hi] at h
  have hlt : max x (-x) < ⊤ := by
    by_contra hc
    simp [Ideal.cmp, hc] at h
  induction x with
  | coe r => exact ⟨r, rfl⟩
  | top => simp at hlt
  | bot => simp at hlt

/-- A number that compares equal to one is one. -/
theorem one (x : EReal) (h : Ideal.cmp .oeq x (Ideal.ofBits .f32 0x3F800000#32) = 1#1) : x = 1 := by
  rw [Ideal.ofBits_one_f32] at h
  by_contra hc
  simp [Ideal.cmp, hc] at h

/-- What the precondition says, entry by entry. -/
structure Dom (idx : IVec S1024x6 32) (thr sgn mask : FVec Ideal S1024x6 .f32) (beta : FVec Ideal S1024 .f32) (pairs : IVec S128x2 32) : Prop where
  idx : ∀ i, ∃ k : Fin 128, idx i = BitVec.ofNat 32 k.val
  pairs : ∀ i, ∃ k : Fin 128, pairs i = BitVec.ofNat 32 k.val
  mask : ∀ i, mask i = (1 : EReal)
  thr : ∀ i, ∃ r : ℝ, thr i = (r : EReal)
  sgn : ∀ i, ∃ r : ℝ, sgn i = (r : EReal)
  beta : ∀ i, ∃ r : ℝ, beta i = (r : EReal)

/-- The precondition, read. -/
theorem read (X : FVec Ideal S4096x128 .f32) (idx : IVec S1024x6 32) (thr sgn mask : FVec Ideal S1024x6 .f32) (beta : FVec Ideal S1024 .f32)
    (cp : FVec Ideal S1024x385 .f32) (att : FVec Ideal S128 .f32) (pairs : IVec S128x2 32)
    (h : Cert.Pre_in_domain.fn (F := Ideal) X idx thr sgn mask beta cp att pairs = fun _ => 1#1) : Dom idx thr sgn mask beta pairs := by
  have h0 := congrFun h (fun i => i.elim0)
  unfold Cert.Pre_in_domain.fn Cert.Pre_in_domain.fn_part1 at h0
  dsimp only at h0
  obtain ⟨h1, hb⟩ := IntOp.andi_eq_one.mp h0
  obtain ⟨h2, hs⟩ := IntOp.andi_eq_one.mp h1
  obtain ⟨h3, ht⟩ := IntOp.andi_eq_one.mp h2
  obtain ⟨h4, hm⟩ := IntOp.andi_eq_one.mp h3
  obtain ⟨hi, hp⟩ := IntOp.andi_eq_one.mp h4
  exact ⟨fun i => number _ (Host.reduce_andi_all _ _ _ _ _ hi i), fun i => number _ (Host.reduce_andi_all _ _ _ _ _ hp i),
    fun i => one _ (Host.reduce_andi_all _ _ _ _ _ hm i), fun i => finite _ (Host.reduce_andi_all _ _ _ _ _ ht i),
    fun i => finite _ (Host.reduce_andi_all _ _ _ _ _ hs i), fun i => finite _ (Host.reduce_andi_all _ _ _ _ _ hb i)⟩

end Cert.Domain01

end
-- ==== Proof.Equation.lean ====
module

public import proofs.«01_k».proof.Proof.KernelRow
public import proofs.«01_k».proof.Proof.RefRow
public import proofs.«01_k».proof.Proof.Domain

@[expose] public section

set_option maxRecDepth 16384

noncomputable section

namespace Cert.Equation01

open Cert.KernelIdeal Cert.KernelIdeal.Gen Idealize.ShloMosaic Idealize.ShloMosaic.TcCoe

/-- A plane built from arguments in the domain holds the rules' parameters. -/
theorem holds (idx : IVec S1024x6 32) (thr sgn : FVec Ideal S1024x6 .f32) (beta : FVec Ideal S1024 .f32) (att : FVec Ideal S128 .f32) (pairs : IVec S128x2 32)
    (K : Fin 1024 → Fin 6 → Fin 128) (s t : Fin 1024 → Fin 6 → ℝ) (β : Fin 1024 → ℝ) (A B : Fin 128 → Fin 128)
    (hK : ∀ r l, idx (ix2 r l) = BitVec.ofNat 32 (K r l).val) (hA : ∀ p, pairs (ix2 p (0 : Fin 2)) = BitVec.ofNat 32 (A p).val)
    (hB : ∀ p, pairs (ix2 p (1 : Fin 2)) = BitVec.ofNat 32 (B p).val)
    (hs : ∀ r l, sgn (ix2 r l) = (s r l : EReal)) (ht : ∀ r l, thr (ix2 r l) = (t r l : EReal)) (hb : ∀ r, beta (ix1 r) = (β r : EReal)) :
    Row.Holds (Plane.planeT idx thr sgn beta att pairs) K s t β A B (fun f => att (ix1 f)) where
  sign r l := by rw [Plane.plane0, hs, hb]
  shift r l := by rw [Plane.plane1, hs, ht, hb]
  feature r l := by rw [Plane.plane2, hK]
  first p := by rw [Plane.plane3, hA]
  second p := by rw [Plane.plane4, hB]
  weight f := Plane.plane5 idx thr sgn beta att pairs f

variable (m : (ℓ : Loc nD τ sig) → Buf (Elt Ideal) ℓ) (c : Dev nD)

/-- On the domain the kernel's result array is the reference's function of the kernel's arguments. -/
theorem equal (D : Domain01.Dom (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg8))) :
    Value.G3 m c = Cert.ReferenceIdeal.Term.refT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  choose K hK using fun (r : Fin 1024) (l : Fin 6) => D.idx (ix2 r l)
  choose A hA using fun p : Fin 128 => D.pairs (ix2 p (0 : Fin 2))
  choose B hB using fun p : Fin 128 => D.pairs (ix2 p (1 : Fin 2))
  choose t ht using fun (r : Fin 1024) (l : Fin 6) => D.thr (ix2 r l)
  choose s hs using fun (r : Fin 1024) (l : Fin 6) => D.sgn (ix2 r l)
  choose β hb using fun r : Fin 1024 => D.beta (ix1 r)
  funext i
  have hi : i = ix2 (i 0 : Fin 4096) (0 : Fin 1) := (eq_ix2 i).trans (congrArg₂ ix2 rfl (Subsingleton.elim _ _))
  rw [hi]
  generalize (i 0 : Fin 4096) = R
  refine (Array.array m c R).trans ?_
  rw [Plane.plane_eq, Plane.cp_eq]
  refine (Row.block_row (holds _ _ _ _ _ _ K s t β A B hK hA hB hs ht hb) _ _ _).trans ?_
  refine Eq.trans ?_ (Cert.ReferenceIdeal.Row.ref_row _ _ _ _ _ _ _ _ _ K s t β A B hK hA hB (fun r l => D.mask (ix2 r l)) hs ht hb R).symm
  congr 1
  funext f
  congr 1
  refine (Plane.blk0 m c _ _ f).trans ?_
  congr 2
  apply Fin.ext
  show R.val / 2048 * 2048 + R.val % 2048 = R.val
  omega

end Cert.Equation01

end
-- ==== Proof.lean ====
/- The claims of the certificate, assembled from the kernel's and the reference's runs. -/
module

public import proofs.«01_k».proof.Defs
public import proofs.«01_k».proof.Proof.Gen.Kernel.Frame
public import proofs.«01_k».proof.Proof.Gen.KernelIdeal.Value
public import proofs.«01_k».proof.Proof.Gen.Pre_in_domain
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates without fault, its arguments unchanged and its counters zero. -/
theorem frameReference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, stated under the precondition. -/
theorem frameReference_pre : quiescent_ReferenceIdeal_pre_in_domain := fun m ρ _ => frameReference m ρ trivial

/-- Over the extended reals kernel and reference compute the same function, on the domain. -/
theorem value : algebraic_KernelIdeal_ReferenceIdeal_pre_in_domain := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨a0, a1, a2, a3, a4, a5, a6, a7, a8⟩ := hagree c
  refine ((h c).1.trans (Cert.ReferenceIdeal.Term.res_eq m' c)).trans ?_
  rw [a0, a1, a2, a3, a4, a5, a6, a7, a8]
  exact (Cert.Equation01.equal m c (Cert.Domain01.read _ _ _ _ _ _ _ _ _ (hpre c))).symm

/-- The claims, together. -/
theorem claim : Cert.Claim := ⟨Cert.Kernel.Gen.facts, Cert.KernelIdeal.Gen.facts, Cert.ReferenceIdeal.Gen.facts, Cert.Pre_in_domain.Gen.facts,
  fun m ρ _ => Cert.Kernel.Gen.frame m ρ, fun m ρ _ => Cert.KernelIdeal.Gen.frame m ρ, fun m ρ _ => Cert.KernelIdeal.Gen.frame m ρ,
  frameReference, frameReference_pre,
  ⟨IdealRules.named_const.statement Cert.KernelIdeal.κ "neg_log2e" .f32 0xBFB8AA3B#32 _ rfl,
   IdealRules.named_const.statement Cert.KernelIdeal.κ "log2e" .f32 0x3FB8AA3B#32 _ rfl⟩, value⟩

end Cert.Proof

end
